-- ==== Defs.lean ====
def Pre_Kernel [hPre_pixel_bins : Cert.Pre_pixel_bins.Facts] (m : (ℓ : Loc Cert.Kernel.nD Cert.Kernel.τ Cert.Kernel.sig) → Buf (Elt Bits) ℓ) : Prop :=
  ∀ c : Dev Cert.Kernel.nD,
    (Cert.Pre_pixel_bins.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pixel_bins : Cert.Pre_pixel_bins.Facts] (m : (ℓ : Loc Cert.KernelIdeal.nD Cert.KernelIdeal.τ Cert.KernelIdeal.sig) → Buf (Elt Ideal) ℓ) : Prop :=
  ∀ c : Dev Cert.KernelIdeal.nD,
    (Cert.Pre_pixel_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pixel_bins [hPre_pixel_bins : Cert.Pre_pixel_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pixel_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pixel_bins : Cert.Pre_pixel_bins.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pixel_bins : Cert.Pre_pixel_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pixel_bins [hReferenceIdeal : Cert.ReferenceIdeal.Facts] [hPre_pixel_bins : Cert.Pre_pixel_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pixel_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_c" .f32 0xBD9D7A57#32 ((-200 / 2601 : ℝ) : EReal)

def algebraic_KernelIdeal_ReferenceIdeal [hKernelIdeal : Cert.KernelIdeal.Facts] [hReferenceIdeal : Cert.ReferenceIdeal.Facts] [hPre_pixel_bins : Cert.Pre_pixel_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pixel_bins : Cert.Pre_pixel_bins.Facts),
    quiescent_Kernel (hKernel := hKernel) (hPre_pixel_bins := hPre_pixel_bins)
    ∧ quiescent_KernelIdeal (hKernelIdeal := hKernelIdeal) (hPre_pixel_bins := hPre_pixel_bins)
    ∧ quiescent_ReferenceIdeal (hReferenceIdeal := hReferenceIdeal)
    ∧ quiescent_ReferenceIdeal_pre_pixel_bins (hReferenceIdeal := hReferenceIdeal) (hPre_pixel_bins := hPre_pixel_bins)
    ∧ preserves_Kernel_KernelIdeal
    ∧ algebraic_KernelIdeal_ReferenceIdeal (hKernelIdeal := hKernelIdeal) (hReferenceIdeal := hReferenceIdeal) (hPre_pixel_bins := hPre_pixel_bins)
-- ==== Pre_pixel_bins.lean ====
abbrev S2x2x200x2 : Shape := ⟨4, ![2, 2, 200, 2]⟩
abbrev S2x2x4x224x224 : Shape := ⟨5, ![2, 2, 4, 224, 224]⟩
abbrev S2x2x1x224x224 : Shape := ⟨5, ![2, 2, 1, 224, 224]⟩
abbrev S2x2x224x224 : Shape := ⟨4, ![2, 2, 224, 224]⟩
abbrev S_ : Shape := ⟨0, ![]⟩

class Facts : Prop where
  slices_S2x2x4x224x224_S2x2x1x224x224_0_0_3_0_0 : S2x2x4x224x224.Slices ![0, 0, 3, 0, 0] S2x2x1x224x224
  shapeCasts_S2x2x1x224x224_S2x2x224x224 : S2x2x1x224x224.ShapeCasts S2x2x224x224
  bcast_S_S2x2x224x224 : S_.BroadcastsInDim S2x2x224x224 (![] : Fin 0 → Fin S2x2x224x224.rank)
  reducesTo_S2x2x224x224_S_d0_1_2_3 : S2x2x224x224.ReducesTo [0, 1, 2, 3] S_
  h_S_ : 0 < S_.numel

variable [Facts]

def fn {F : FTy → Type} [FloatOps F] (main_arg0 : FVec F S2x2x200x2 .f32) (main_arg1 : FVec F S2x2x4x224x224 .f32) : IVec S_ 1 :=
  let main_v0 : FVec F S2x2x1x224x224 .f32 := (extractStridedSlice S2x2x1x224x224 ![0, 0, 3, 0, 0] · slices_S2x2x4x224x224_S2x2x1x224x224_0_0_3_0_0) main_arg1
  let main_v1 : FVec F S2x2x224x224 .f32 := shapeCast S2x2x224x224 main_v0 shapeCasts_S2x2x1x224x224_S2x2x224x224
  let main_cst : FVec F S_ .f32 := constant S_ .f32 0x437F0000#32
  let main_v2 : FVec F S2x2x224x224 .f32 := broadcastInDim S2x2x224x224 ![] bcast_S_S2x2x224x224 main_cst
  let main_v3 : FVec F S2x2x224x224 .f32 := mulf main_v1 main_v2
  let main_v4 : IVec S2x2x224x224 32 := fptosi 32 main_v3
  let main_c : IVec S_ 32 := constantI S_ 32 0#32
  let main_v5 : IVec S2x2x224x224 32 := broadcastInDim S2x2x224x224 ![] bcast_S_S2x2x224x224 main_c
  let main_v6 : IVec S2x2x224x224 1 := cmpi .sge main_v4 main_v5
  let main_c_0 : IVec S_ 32 := constantI S_ 32 256#32
  let main_v7 : IVec S2x2x224x224 32 := broadcastInDim S2x2x224x224 ![] bcast_S_S2x2x224x224 main_c_0
  let main_v8 : IVec S2x2x224x224 1 := cmpi .slt main_v4 main_v7
  let main_v9 : IVec S2x2x224x224 1 := andi main_v6 main_v8
  let main_c_1 : IVec S_ 1 := constantI S_ 1 1#1
  let main_v10 : IVec S_ 1 := (fun x v => Host.reduce IntOp.andi x v reducesTo_S2x2x224x224_S_d0_1_2_3 h_S_) main_v9 main_c_1
  main_v10
-- ==== Kernel.lean ====
abbrev S2x2x200x2 : Shape := ⟨4, ![2, 2, 200, 2]⟩
abbrev S2x2x4x224x224 : Shape := ⟨5, ![2, 2, 4, 224, 224]⟩
abbrev S2x2x1x224x224 : Shape := ⟨5, ![2, 2, 1, 224, 224]⟩
abbrev S2x2x224x224 : Shape := ⟨4, ![2, 2, 224, 224]⟩
abbrev S4x28x8x2x112 : Shape := ⟨5, ![4, 28, 8, 2, 112]⟩
abbrev S4x28x2x8x112 : Shape := ⟨5, ![4, 28, 2, 8, 112]⟩
abbrev S224x8x112 : Shape := ⟨3, ![224, 8, 112]⟩
abbrev S3136x256 : Shape := ⟨2, ![3136, 256]⟩
abbrev S8x112 : Shape := ⟨2, ![8, 112]⟩
abbrev S7x14x256 : Shape := ⟨3, ![7, 14, 256]⟩
abbrev S4608 : Shape := ⟨1, ![4608]⟩
abbrev S_ : Shape := ⟨0, ![]⟩
abbrev S16 : Shape := ⟨1, ![16]⟩
abbrev S1x8x112 : Shape := ⟨3, ![1, 8, 112]⟩
abbrev S1x1x16 : Shape := ⟨3, ![1, 1, 16]⟩
abbrev S1x14x256 : Shape := ⟨3, ![1, 14, 256]⟩
abbrev S14x256 : Shape := ⟨2, ![14, 256]⟩
abbrev S3136x1 : Shape := ⟨2, ![3136, 1]⟩
abbrev S3136 : Shape := ⟨1, ![3136]⟩
abbrev S2x2x1x28x28 : Shape := ⟨5, ![2, 2, 1, 28, 28]⟩

abbrev nBuf : Table → Nat
  | .hbm => 10
  | .local .tc .vmem => 2
  | .local .scVector .vmem => 3
  | _ => 0

abbrev bufTy : (tb : Table) → Fin (nBuf tb) → BufTy
  | .hbm, ⟨0, _⟩ => ⟨S2x2x200x2, .f32⟩
  | .hbm, ⟨1, _⟩ => ⟨S2x2x4x224x224, .f32⟩
  | .hbm, ⟨2, _⟩ => ⟨S2x2x1x224x224, .f32⟩
  | .hbm, ⟨3, _⟩ => ⟨S2x2x224x224, .f32⟩
  | .hbm, ⟨4, _⟩ => ⟨S4x28x8x2x112, .f32⟩
  | .hbm, ⟨5, _⟩ => ⟨S4x28x2x8x112, .f32⟩
  | .hbm, ⟨6, _⟩ => ⟨S224x8x112, .f32⟩
  | .hbm, ⟨7, _⟩ => ⟨S3136x256, .f32⟩
  | .hbm, ⟨8, _⟩ => ⟨S3136x1, .f32⟩
  | .hbm, ⟨9, _⟩ => ⟨S2x2x1x28x28, .f32⟩
  | .local .tc .vmem, ⟨0, _⟩ => ⟨S3136x256, .f32⟩
  | .local .tc .vmem, ⟨1, _⟩ => ⟨S3136x1, .f32⟩
  | .local .scVector .vmem, ⟨0, _⟩ => ⟨S8x112, .f32⟩
  | .local .scVector .vmem, ⟨1, _⟩ => ⟨S7x14x256, .f32⟩
  | .local .scVector .vmem, ⟨2, _⟩ => ⟨S4608, .f32⟩
  | _, _ => ⟨S2x2x200x2, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => true
  | ⟨3, _⟩ => true
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v4_scv : Ref sig .scVector := ⟨.hbm, 6, rfl⟩
abbrev main_v5_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 2
abbrev cc1_sem1_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_16 : BitVec 32 := 0#32
  let c288_i32_17 : BitVec 32 := 288#32
  let v54 : BitVec 32 := Scalar.addi c0_i32_16 c288_i32_17
  let c1_i32_18 : BitVec 32 := 1#32
  ⟨c0_i32_16, v54, c1_i32_18⟩
def k0_off1 (k0_t1 : Fin k0_t1_loop.trips) : Fin 1 → Nat :=
  let c16_i32 : BitVec 32 := 16#32
  let c0_i32_16 : BitVec 32 := 0#32
  let c1_i32_18 : BitVec 32 := 1#32
  let arg8 : BitVec 32 := Scf.iv c0_i32_16 c1_i32_18 k0_t1
  let v119 : BitVec 32 := Scalar.muli c16_i32 arg8
  let v120 : Index := Scalar.indexCast v119
  ![v120.toNat]
@[reducible] def k0_t2_loop : Scf.Loop 32 :=
  let c0_i32_21 : BitVec 32 := 0#32
  let c7_i32_22 : BitVec 32 := 7#32
  let v55 : BitVec 32 := Scalar.addi c0_i32_21 c7_i32_22
  let c1_i32_23 : BitVec 32 := 1#32
  ⟨c0_i32_21, v55, c1_i32_23⟩
def k0_off2 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_89 : BitVec 32 := 7#32
  let v119 : BitVec 32 := Scalar.muli v1 c7_i32_89
  let c0_i32_21 : BitVec 32 := 0#32
  let c1_i32_23 : BitVec 32 := 1#32
  let arg8 : BitVec 32 := Scf.iv c0_i32_21 c1_i32_23 k0_t2
  let v120 : BitVec 32 := Scalar.addi v119 arg8
  let c0_i32_107_r0 : BitVec 32 := 0#32
  let c0_i32_108_r0 : BitVec 32 := 0#32
  ![v120.toNat, 0, 0]
@[reducible] def k0_t3_loop : Scf.Loop 32 :=
  let c0_i32_91 : BitVec 32 := 0#32
  let c8_i32_92 : BitVec 32 := 8#32
  let v121 : BitVec 32 := Scalar.addi c0_i32_91 c8_i32_92
  let c1_i32_93 : BitVec 32 := 1#32
  ⟨c0_i32_91, v121, c1_i32_93⟩

def k0_chk2 (v145 : IVec S16 32) : Prop :=
  (∀ a x, ((![v145] : Fin 1 → IVec S16 32) a x).toNat < S4608.size a)
theorem k0_idx2_inb : ∀ (v145 : IVec S16 32) (k0_hw2 : k0_chk2 v145), ∀ a x, ((![v145] : Fin 1 → IVec S16 32) a x).toNat < S4608.size a := fun v145 k0_hw2 => k0_hw2

def k0_chk3 (v153 : IVec S16 32) : Prop :=
  (∀ a x, ((![v153] : Fin 1 → IVec S16 32) a x).toNat < S4608.size a)
theorem k0_idx3_inb : ∀ (v153 : IVec S16 32) (k0_hw3 : k0_chk3 v153), ∀ a x, ((![v153] : Fin 1 → IVec S16 32) a x).toNat < S4608.size a := fun v153 k0_hw3 => k0_hw3

def k0_chk4 (v161 : IVec S16 32) : Prop :=
  (∀ a x, ((![v161] : Fin 1 → IVec S16 32) a x).toNat < S4608.size a)
theorem k0_idx4_inb : ∀ (v161 : IVec S16 32) (k0_hw4 : k0_chk4 v161), ∀ a x, ((![v161] : Fin 1 → IVec S16 32) a x).toNat < S4608.size a := fun v161 k0_hw4 => k0_hw4

def k0_chk5 (v169 : IVec S16 32) : Prop :=
  (∀ a x, ((![v169] : Fin 1 → IVec S16 32) a x).toNat < S4608.size a)
theorem k0_idx5_inb : ∀ (v169 : IVec S16 32) (k0_hw5 : k0_chk5 v169), ∀ a x, ((![v169] : Fin 1 → IVec S16 32) a x).toNat < S4608.size a := fun v169 k0_hw5 => k0_hw5

def k0_chk6 (v177 : IVec S16 32) : Prop :=
  (∀ a x, ((![v177] : Fin 1 → IVec S16 32) a x).toNat < S4608.size a)
theorem k0_idx6_inb : ∀ (v177 : IVec S16 32) (k0_hw6 : k0_chk6 v177), ∀ a x, ((![v177] : Fin 1 → IVec S16 32) a x).toNat < S4608.size a := fun v177 k0_hw6 => k0_hw6

def k0_chk7 (v185 : IVec S16 32) : Prop :=
  (∀ a x, ((![v185] : Fin 1 → IVec S16 32) a x).toNat < S4608.size a)
theorem k0_idx7_inb : ∀ (v185 : IVec S16 32) (k0_hw7 : k0_chk7 v185), ∀ a x, ((![v185] : Fin 1 → IVec S16 32) a x).toNat < S4608.size a := fun v185 k0_hw7 => k0_hw7

def k0_chk8 (v193 : IVec S16 32) : Prop :=
  (∀ a x, ((![v193] : Fin 1 → IVec S16 32) a x).toNat < S4608.size a)
theorem k0_idx8_inb : ∀ (v193 : IVec S16 32) (k0_hw8 : k0_chk8 v193), ∀ a x, ((![v193] : Fin 1 → IVec S16 32) a x).toNat < S4608.size a := fun v193 k0_hw8 => k0_hw8

def k0_chk9 (v201 : IVec S16 32) : Prop :=
  (∀ a x, ((![v201] : Fin 1 → IVec S16 32) a x).toNat < S4608.size a)
theorem k0_idx9_inb : ∀ (v201 : IVec S16 32) (k0_hw9 : k0_chk9 v201), ∀ a x, ((![v201] : Fin 1 → IVec S16 32) a x).toNat < S4608.size a := fun v201 k0_hw9 => k0_hw9

def k0_chk10 (v209 : IVec S16 32) : Prop :=
  (∀ a x, ((![v209] : Fin 1 → IVec S16 32) a x).toNat < S4608.size a)
theorem k0_idx10_inb : ∀ (v209 : IVec S16 32) (k0_hw10 : k0_chk10 v209), ∀ a x, ((![v209] : Fin 1 → IVec S16 32) a x).toNat < S4608.size a := fun v209 k0_hw10 => k0_hw10

def k0_chk11 (v217 : IVec S16 32) : Prop :=
  (∀ a x, ((![v217] : Fin 1 → IVec S16 32) a x).toNat < S4608.size a)
theorem k0_idx11_inb : ∀ (v217 : IVec S16 32) (k0_hw11 : k0_chk11 v217), ∀ a x, ((![v217] : Fin 1 → IVec S16 32) a x).toNat < S4608.size a := fun v217 k0_hw11 => k0_hw11

def k0_chk12 (v225 : IVec S16 32) : Prop :=
  (∀ a x, ((![v225] : Fin 1 → IVec S16 32) a x).toNat < S4608.size a)
theorem k0_idx12_inb : ∀ (v225 : IVec S16 32) (k0_hw12 : k0_chk12 v225), ∀ a x, ((![v225] : Fin 1 → IVec S16 32) a x).toNat < S4608.size a := fun v225 k0_hw12 => k0_hw12

def k0_chk13 (v233 : IVec S16 32) : Prop :=
  (∀ a x, ((![v233] : Fin 1 → IVec S16 32) a x).toNat < S4608.size a)
theorem k0_idx13_inb : ∀ (v233 : IVec S16 32) (k0_hw13 : k0_chk13 v233), ∀ a x, ((![v233] : Fin 1 → IVec S16 32) a x).toNat < S4608.size a := fun v233 k0_hw13 => k0_hw13

def k0_chk14 (v241 : IVec S16 32) : Prop :=
  (∀ a x, ((![v241] : Fin 1 → IVec S16 32) a x).toNat < S4608.size a)
theorem k0_idx14_inb : ∀ (v241 : IVec S16 32) (k0_hw14 : k0_chk14 v241), ∀ a x, ((![v241] : Fin 1 → IVec S16 32) a x).toNat < S4608.size a := fun v241 k0_hw14 => k0_hw14

def k0_chk15 (v249 : IVec S16 32) : Prop :=
  (∀ a x, ((![v249] : Fin 1 → IVec S16 32) a x).toNat < S4608.size a)
theorem k0_idx15_inb : ∀ (v249 : IVec S16 32) (k0_hw15 : k0_chk15 v249), ∀ a x, ((![v249] : Fin 1 → IVec S16 32) a x).toNat < S4608.size a := fun v249 k0_hw15 => k0_hw15

def k0_chk16 (v257 : IVec S16 32) : Prop :=
  (∀ a x, ((![v257] : Fin 1 → IVec S16 32) a x).toNat < S4608.size a)
theorem k0_idx16_inb : ∀ (v257 : IVec S16 32) (k0_hw16 : k0_chk16 v257), ∀ a x, ((![v257] : Fin 1 → IVec S16 32) a x).toNat < S4608.size a := fun v257 k0_hw16 => k0_hw16

def k0_chk17 (v265 : IVec S16 32) : Prop :=
  (∀ a x, ((![v265] : Fin 1 → IVec S16 32) a x).toNat < S4608.size a)
theorem k0_idx17_inb : ∀ (v265 : IVec S16 32) (k0_hw17 : k0_chk17 v265), ∀ a x, ((![v265] : Fin 1 → IVec S16 32) a x).toNat < S4608.size a := fun v265 k0_hw17 => k0_hw17

def k0_chk18 (v280 : IVec S16 32) : Prop :=
  (∀ a x, ((![v280] : Fin 1 → IVec S16 32) a x).toNat < S4608.size a)
theorem k0_idx19_inb : ∀ (v280 : IVec S16 32) (k0_hw18 : k0_chk18 v280), ∀ a x, ((![v280] : Fin 1 → IVec S16 32) a x).toNat < S4608.size a := fun v280 k0_hw18 => k0_hw18

def k0_chk19 (v288 : IVec S16 32) : Prop :=
  (∀ a x, ((![v288] : Fin 1 → IVec S16 32) a x).toNat < S4608.size a)
theorem k0_idx20_inb : ∀ (v288 : IVec S16 32) (k0_hw19 : k0_chk19 v288), ∀ a x, ((![v288] : Fin 1 → IVec S16 32) a x).toNat < S4608.size a := fun v288 k0_hw19 => k0_hw19

def k0_chk20 (v296 : IVec S16 32) : Prop :=
  (∀ a x, ((![v296] : Fin 1 → IVec S16 32) a x).toNat < S4608.size a)
theorem k0_idx21_inb : ∀ (v296 : IVec S16 32) (k0_hw20 : k0_chk20 v296), ∀ a x, ((![v296] : Fin 1 → IVec S16 32) a x).toNat < S4608.size a := fun v296 k0_hw20 => k0_hw20

def k0_chk21 (v304 : IVec S16 32) : Prop :=
  (∀ a x, ((![v304] : Fin 1 → IVec S16 32) a x).toNat < S4608.size a)
theorem k0_idx22_inb : ∀ (v304 : IVec S16 32) (k0_hw21 : k0_chk21 v304), ∀ a x, ((![v304] : Fin 1 → IVec S16 32) a x).toNat < S4608.size a := fun v304 k0_hw21 => k0_hw21

def k0_chk22 (v312 : IVec S16 32) : Prop :=
  (∀ a x, ((![v312] : Fin 1 → IVec S16 32) a x).toNat < S4608.size a)
theorem k0_idx23_inb : ∀ (v312 : IVec S16 32) (k0_hw22 : k0_chk22 v312), ∀ a x, ((![v312] : Fin 1 → IVec S16 32) a x).toNat < S4608.size a := fun v312 k0_hw22 => k0_hw22

def k0_chk23 (v320 : IVec S16 32) : Prop :=
  (∀ a x, ((![v320] : Fin 1 → IVec S16 32) a x).toNat < S4608.size a)
theorem k0_idx24_inb : ∀ (v320 : IVec S16 32) (k0_hw23 : k0_chk23 v320), ∀ a x, ((![v320] : Fin 1 → IVec S16 32) a x).toNat < S4608.size a := fun v320 k0_hw23 => k0_hw23

def k0_chk24 (v328 : IVec S16 32) : Prop :=
  (∀ a x, ((![v328] : Fin 1 → IVec S16 32) a x).toNat < S4608.size a)
theorem k0_idx25_inb : ∀ (v328 : IVec S16 32) (k0_hw24 : k0_chk24 v328), ∀ a x, ((![v328] : Fin 1 → IVec S16 32) a x).toNat < S4608.size a := fun v328 k0_hw24 => k0_hw24

def k0_chk25 (v336 : IVec S16 32) : Prop :=
  (∀ a x, ((![v336] : Fin 1 → IVec S16 32) a x).toNat < S4608.size a)
theorem k0_idx26_inb : ∀ (v336 : IVec S16 32) (k0_hw25 : k0_chk25 v336), ∀ a x, ((![v336] : Fin 1 → IVec S16 32) a x).toNat < S4608.size a := fun v336 k0_hw25 => k0_hw25

def k0_chk26 (v344 : IVec S16 32) : Prop :=
  (∀ a x, ((![v344] : Fin 1 → IVec S16 32) a x).toNat < S4608.size a)
theorem k0_idx27_inb : ∀ (v344 : IVec S16 32) (k0_hw26 : k0_chk26 v344), ∀ a x, ((![v344] : Fin 1 → IVec S16 32) a x).toNat < S4608.size a := fun v344 k0_hw26 => k0_hw26

def k0_chk27 (v352 : IVec S16 32) : Prop :=
  (∀ a x, ((![v352] : Fin 1 → IVec S16 32) a x).toNat < S4608.size a)
theorem k0_idx28_inb : ∀ (v352 : IVec S16 32) (k0_hw27 : k0_chk27 v352), ∀ a x, ((![v352] : Fin 1 → IVec S16 32) a x).toNat < S4608.size a := fun v352 k0_hw27 => k0_hw27

def k0_chk28 (v360 : IVec S16 32) : Prop :=
  (∀ a x, ((![v360] : Fin 1 → IVec S16 32) a x).toNat < S4608.size a)
theorem k0_idx29_inb : ∀ (v360 : IVec S16 32) (k0_hw28 : k0_chk28 v360), ∀ a x, ((![v360] : Fin 1 → IVec S16 32) a x).toNat < S4608.size a := fun v360 k0_hw28 => k0_hw28

def k0_chk29 (v368 : IVec S16 32) : Prop :=
  (∀ a x, ((![v368] : Fin 1 → IVec S16 32) a x).toNat < S4608.size a)
theorem k0_idx30_inb : ∀ (v368 : IVec S16 32) (k0_hw29 : k0_chk29 v368), ∀ a x, ((![v368] : Fin 1 → IVec S16 32) a x).toNat < S4608.size a := fun v368 k0_hw29 => k0_hw29

def k0_chk30 (v376 : IVec S16 32) : Prop :=
  (∀ a x, ((![v376] : Fin 1 → IVec S16 32) a x).toNat < S4608.size a)
theorem k0_idx31_inb : ∀ (v376 : IVec S16 32) (k0_hw30 : k0_chk30 v376), ∀ a x, ((![v376] : Fin 1 → IVec S16 32) a x).toNat < S4608.size a := fun v376 k0_hw30 => k0_hw30

def k0_chk31 (v384 : IVec S16 32) : Prop :=
  (∀ a x, ((![v384] : Fin 1 → IVec S16 32) a x).toNat < S4608.size a)
theorem k0_idx32_inb : ∀ (v384 : IVec S16 32) (k0_hw31 : k0_chk31 v384), ∀ a x, ((![v384] : Fin 1 → IVec S16 32) a x).toNat < S4608.size a := fun v384 k0_hw31 => k0_hw31

def k0_chk32 (v392 : IVec S16 32) : Prop :=
  (∀ a x, ((![v392] : Fin 1 → IVec S16 32) a x).toNat < S4608.size a)
theorem k0_idx33_inb : ∀ (v392 : IVec S16 32) (k0_hw32 : k0_chk32 v392), ∀ a x, ((![v392] : Fin 1 → IVec S16 32) a x).toNat < S4608.size a := fun v392 k0_hw32 => k0_hw32

def k0_chk33 (v400 : IVec S16 32) : Prop :=
  (∀ a x, ((![v400] : Fin 1 → IVec S16 32) a x).toNat < S4608.size a)
theorem k0_idx34_inb : ∀ (v400 : IVec S16 32) (k0_hw33 : k0_chk33 v400), ∀ a x, ((![v400] : Fin 1 → IVec S16 32) a x).toNat < S4608.size a := fun v400 k0_hw33 => k0_hw33

def k0_chk34 (v415 : IVec S16 32) : Prop :=
  (∀ a x, ((![v415] : Fin 1 → IVec S16 32) a x).toNat < S4608.size a)
theorem k0_idx36_inb : ∀ (v415 : IVec S16 32) (k0_hw34 : k0_chk34 v415), ∀ a x, ((![v415] : Fin 1 → IVec S16 32) a x).toNat < S4608.size a := fun v415 k0_hw34 => k0_hw34

def k0_chk35 (v423 : IVec S16 32) : Prop :=
  (∀ a x, ((![v423] : Fin 1 → IVec S16 32) a x).toNat < S4608.size a)
theorem k0_idx37_inb : ∀ (v423 : IVec S16 32) (k0_hw35 : k0_chk35 v423), ∀ a x, ((![v423] : Fin 1 → IVec S16 32) a x).toNat < S4608.size a := fun v423 k0_hw35 => k0_hw35

def k0_chk36 (v431 : IVec S16 32) : Prop :=
  (∀ a x, ((![v431] : Fin 1 → IVec S16 32) a x).toNat < S4608.size a)
theorem k0_idx38_inb : ∀ (v431 : IVec S16 32) (k0_hw36 : k0_chk36 v431), ∀ a x, ((![v431] : Fin 1 → IVec S16 32) a x).toNat < S4608.size a := fun v431 k0_hw36 => k0_hw36

def k0_chk37 (v439 : IVec S16 32) : Prop :=
  (∀ a x, ((![v439] : Fin 1 → IVec S16 32) a x).toNat < S4608.size a)
theorem k0_idx39_inb : ∀ (v439 : IVec S16 32) (k0_hw37 : k0_chk37 v439), ∀ a x, ((![v439] : Fin 1 → IVec S16 32) a x).toNat < S4608.size a := fun v439 k0_hw37 => k0_hw37

def k0_chk38 (v447 : IVec S16 32) : Prop :=
  (∀ a x, ((![v447] : Fin 1 → IVec S16 32) a x).toNat < S4608.size a)
theorem k0_idx40_inb : ∀ (v447 : IVec S16 32) (k0_hw38 : k0_chk38 v447), ∀ a x, ((![v447] : Fin 1 → IVec S16 32) a x).toNat < S4608.size a := fun v447 k0_hw38 => k0_hw38

def k0_chk39 (v455 : IVec S16 32) : Prop :=
  (∀ a x, ((![v455] : Fin 1 → IVec S16 32) a x).toNat < S4608.size a)
theorem k0_idx41_inb : ∀ (v455 : IVec S16 32) (k0_hw39 : k0_chk39 v455), ∀ a x, ((![v455] : Fin 1 → IVec S16 32) a x).toNat < S4608.size a := fun v455 k0_hw39 => k0_hw39

def k0_chk40 (v463 : IVec S16 32) : Prop :=
  (∀ a x, ((![v463] : Fin 1 → IVec S16 32) a x).toNat < S4608.size a)
theorem k0_idx42_inb : ∀ (v463 : IVec S16 32) (k0_hw40 : k0_chk40 v463), ∀ a x, ((![v463] : Fin 1 → IVec S16 32) a x).toNat < S4608.size a := fun v463 k0_hw40 => k0_hw40

def k0_chk41 (v471 : IVec S16 32) : Prop :=
  (∀ a x, ((![v471] : Fin 1 → IVec S16 32) a x).toNat < S4608.size a)
theorem k0_idx43_inb : ∀ (v471 : IVec S16 32) (k0_hw41 : k0_chk41 v471), ∀ a x, ((![v471] : Fin 1 → IVec S16 32) a x).toNat < S4608.size a := fun v471 k0_hw41 => k0_hw41

def k0_chk42 (v479 : IVec S16 32) : Prop :=
  (∀ a x, ((![v479] : Fin 1 → IVec S16 32) a x).toNat < S4608.size a)
theorem k0_idx44_inb : ∀ (v479 : IVec S16 32) (k0_hw42 : k0_chk42 v479), ∀ a x, ((![v479] : Fin 1 → IVec S16 32) a x).toNat < S4608.size a := fun v479 k0_hw42 => k0_hw42

def k0_chk43 (v487 : IVec S16 32) : Prop :=
  (∀ a x, ((![v487] : Fin 1 → IVec S16 32) a x).toNat < S4608.size a)
theorem k0_idx45_inb : ∀ (v487 : IVec S16 32) (k0_hw43 : k0_chk43 v487), ∀ a x, ((![v487] : Fin 1 → IVec S16 32) a x).toNat < S4608.size a := fun v487 k0_hw43 => k0_hw43

def k0_chk44 (v495 : IVec S16 32) : Prop :=
  (∀ a x, ((![v495] : Fin 1 → IVec S16 32) a x).toNat < S4608.size a)
theorem k0_idx46_inb : ∀ (v495 : IVec S16 32) (k0_hw44 : k0_chk44 v495), ∀ a x, ((![v495] : Fin 1 → IVec S16 32) a x).toNat < S4608.size a := fun v495 k0_hw44 => k0_hw44

def k0_chk45 (v503 : IVec S16 32) : Prop :=
  (∀ a x, ((![v503] : Fin 1 → IVec S16 32) a x).toNat < S4608.size a)
theorem k0_idx47_inb : ∀ (v503 : IVec S16 32) (k0_hw45 : k0_chk45 v503), ∀ a x, ((![v503] : Fin 1 → IVec S16 32) a x).toNat < S4608.size a := fun v503 k0_hw45 => k0_hw45

def k0_chk46 (v511 : IVec S16 32) : Prop :=
  (∀ a x, ((![v511] : Fin 1 → IVec S16 32) a x).toNat < S4608.size a)
theorem k0_idx48_inb : ∀ (v511 : IVec S16 32) (k0_hw46 : k0_chk46 v511), ∀ a x, ((![v511] : Fin 1 → IVec S16 32) a x).toNat < S4608.size a := fun v511 k0_hw46 => k0_hw46

def k0_chk47 (v519 : IVec S16 32) : Prop :=
  (∀ a x, ((![v519] : Fin 1 → IVec S16 32) a x).toNat < S4608.size a)
theorem k0_idx49_inb : ∀ (v519 : IVec S16 32) (k0_hw47 : k0_chk47 v519), ∀ a x, ((![v519] : Fin 1 → IVec S16 32) a x).toNat < S4608.size a := fun v519 k0_hw47 => k0_hw47

def k0_chk48 (v527 : IVec S16 32) : Prop :=
  (∀ a x, ((![v527] : Fin 1 → IVec S16 32) a x).toNat < S4608.size a)
theorem k0_idx50_inb : ∀ (v527 : IVec S16 32) (k0_hw48 : k0_chk48 v527), ∀ a x, ((![v527] : Fin 1 → IVec S16 32) a x).toNat < S4608.size a := fun v527 k0_hw48 => k0_hw48

def k0_chk49 (v535 : IVec S16 32) : Prop :=
  (∀ a x, ((![v535] : Fin 1 → IVec S16 32) a x).toNat < S4608.size a)
theorem k0_idx51_inb : ∀ (v535 : IVec S16 32) (k0_hw49 : k0_chk49 v535), ∀ a x, ((![v535] : Fin 1 → IVec S16 32) a x).toNat < S4608.size a := fun v535 k0_hw49 => k0_hw49

def k0_chk50 (v550 : IVec S16 32) : Prop :=
  (∀ a x, ((![v550] : Fin 1 → IVec S16 32) a x).toNat < S4608.size a)
theorem k0_idx53_inb : ∀ (v550 : IVec S16 32) (k0_hw50 : k0_chk50 v550), ∀ a x, ((![v550] : Fin 1 → IVec S16 32) a x).toNat < S4608.size a := fun v550 k0_hw50 => k0_hw50

def k0_chk51 (v558 : IVec S16 32) : Prop :=
  (∀ a x, ((![v558] : Fin 1 → IVec S16 32) a x).toNat < S4608.size a)
theorem k0_idx54_inb : ∀ (v558 : IVec S16 32) (k0_hw51 : k0_chk51 v558), ∀ a x, ((![v558] : Fin 1 → IVec S16 32) a x).toNat < S4608.size a := fun v558 k0_hw51 => k0_hw51

def k0_chk52 (v566 : IVec S16 32) : Prop :=
  (∀ a x, ((![v566] : Fin 1 → IVec S16 32) a x).toNat < S4608.size a)
theorem k0_idx55_inb : ∀ (v566 : IVec S16 32) (k0_hw52 : k0_chk52 v566), ∀ a x, ((![v566] : Fin 1 → IVec S16 32) a x).toNat < S4608.size a := fun v566 k0_hw52 => k0_hw52

def k0_chk53 (v574 : IVec S16 32) : Prop :=
  (∀ a x, ((![v574] : Fin 1 → IVec S16 32) a x).toNat < S4608.size a)
theorem k0_idx56_inb : ∀ (v574 : IVec S16 32) (k0_hw53 : k0_chk53 v574), ∀ a x, ((![v574] : Fin 1 → IVec S16 32) a x).toNat < S4608.size a := fun v574 k0_hw53 => k0_hw53

def k0_chk54 (v582 : IVec S16 32) : Prop :=
  (∀ a x, ((![v582] : Fin 1 → IVec S16 32) a x).toNat < S4608.size a)
theorem k0_idx57_inb : ∀ (v582 : IVec S16 32) (k0_hw54 : k0_chk54 v582), ∀ a x, ((![v582] : Fin 1 → IVec S16 32) a x).toNat < S4608.size a := fun v582 k0_hw54 => k0_hw54

def k0_chk55 (v590 : IVec S16 32) : Prop :=
  (∀ a x, ((![v590] : Fin 1 → IVec S16 32) a x).toNat < S4608.size a)
theorem k0_idx58_inb : ∀ (v590 : IVec S16 32) (k0_hw55 : k0_chk55 v590), ∀ a x, ((![v590] : Fin 1 → IVec S16 32) a x).toNat < S4608.size a := fun v590 k0_hw55 => k0_hw55

def k0_chk56 (v598 : IVec S16 32) : Prop :=
  (∀ a x, ((![v598] : Fin 1 → IVec S16 32) a x).toNat < S4608.size a)
theorem k0_idx59_inb : ∀ (v598 : IVec S16 32) (k0_hw56 : k0_chk56 v598), ∀ a x, ((![v598] : Fin 1 → IVec S16 32) a x).toNat < S4608.size a := fun v598 k0_hw56 => k0_hw56

def k0_chk57 (v606 : IVec S16 32) : Prop :=
  (∀ a x, ((![v606] : Fin 1 → IVec S16 32) a x).toNat < S4608.size a)
theorem k0_idx60_inb : ∀ (v606 : IVec S16 32) (k0_hw57 : k0_chk57 v606), ∀ a x, ((![v606] : Fin 1 → IVec S16 32) a x).toNat < S4608.size a := fun v606 k0_hw57 => k0_hw57

def k0_chk58 (v614 : IVec S16 32) : Prop :=
  (∀ a x, ((![v614] : Fin 1 → IVec S16 32) a x).toNat < S4608.size a)
theorem k0_idx61_inb : ∀ (v614 : IVec S16 32) (k0_hw58 : k0_chk58 v614), ∀ a x, ((![v614] : Fin 1 → IVec S16 32) a x).toNat < S4608.size a := fun v614 k0_hw58 => k0_hw58

def k0_chk59 (v622 : IVec S16 32) : Prop :=
  (∀ a x, ((![v622] : Fin 1 → IVec S16 32) a x).toNat < S4608.size a)
theorem k0_idx62_inb : ∀ (v622 : IVec S16 32) (k0_hw59 : k0_chk59 v622), ∀ a x, ((![v622] : Fin 1 → IVec S16 32) a x).toNat < S4608.size a := fun v622 k0_hw59 => k0_hw59

def k0_chk60 (v630 : IVec S16 32) : Prop :=
  (∀ a x, ((![v630] : Fin 1 → IVec S16 32) a x).toNat < S4608.size a)
theorem k0_idx63_inb : ∀ (v630 : IVec S16 32) (k0_hw60 : k0_chk60 v630), ∀ a x, ((![v630] : Fin 1 → IVec S16 32) a x).toNat < S4608.size a := fun v630 k0_hw60 => k0_hw60

def k0_chk61 (v638 : IVec S16 32) : Prop :=
  (∀ a x, ((![v638] : Fin 1 → IVec S16 32) a x).toNat < S4608.size a)
theorem k0_idx64_inb : ∀ (v638 : IVec S16 32) (k0_hw61 : k0_chk61 v638), ∀ a x, ((![v638] : Fin 1 → IVec S16 32) a x).toNat < S4608.size a := fun v638 k0_hw61 => k0_hw61

def k0_chk62 (v646 : IVec S16 32) : Prop :=
  (∀ a x, ((![v646] : Fin 1 → IVec S16 32) a x).toNat < S4608.size a)
theorem k0_idx65_inb : ∀ (v646 : IVec S16 32) (k0_hw62 : k0_chk62 v646), ∀ a x, ((![v646] : Fin 1 → IVec S16 32) a x).toNat < S4608.size a := fun v646 k0_hw62 => k0_hw62

def k0_chk63 (v654 : IVec S16 32) : Prop :=
  (∀ a x, ((![v654] : Fin 1 → IVec S16 32) a x).toNat < S4608.size a)
theorem k0_idx66_inb : ∀ (v654 : IVec S16 32) (k0_hw63 : k0_chk63 v654), ∀ a x, ((![v654] : Fin 1 → IVec S16 32) a x).toNat < S4608.size a := fun v654 k0_hw63 => k0_hw63

def k0_chk64 (v662 : IVec S16 32) : Prop :=
  (∀ a x, ((![v662] : Fin 1 → IVec S16 32) a x).toNat < S4608.size a)
theorem k0_idx67_inb : ∀ (v662 : IVec S16 32) (k0_hw64 : k0_chk64 v662), ∀ a x, ((![v662] : Fin 1 → IVec S16 32) a x).toNat < S4608.size a := fun v662 k0_hw64 => k0_hw64

def k0_chk65 (v670 : IVec S16 32) : Prop :=
  (∀ a x, ((![v670] : Fin 1 → IVec S16 32) a x).toNat < S4608.size a)
theorem k0_idx68_inb : ∀ (v670 : IVec S16 32) (k0_hw65 : k0_chk65 v670), ∀ a x, ((![v670] : Fin 1 → IVec S16 32) a x).toNat < S4608.size a := fun v670 k0_hw65 => k0_hw65

def k0_chk66 (v685 : IVec S16 32) : Prop :=
  (∀ a x, ((![v685] : Fin 1 → IVec S16 32) a x).toNat < S4608.size a)
theorem k0_idx70_inb : ∀ (v685 : IVec S16 32) (k0_hw66 : k0_chk66 v685), ∀ a x, ((![v685] : Fin 1 → IVec S16 32) a x).toNat < S4608.size a := fun v685 k0_hw66 => k0_hw66

def k0_chk67 (v693 : IVec S16 32) : Prop :=
  (∀ a x, ((![v693] : Fin 1 → IVec S16 32) a x).toNat < S4608.size a)
theorem k0_idx71_inb : ∀ (v693 : IVec S16 32) (k0_hw67 : k0_chk67 v693), ∀ a x, ((![v693] : Fin 1 → IVec S16 32) a x).toNat < S4608.size a := fun v693 k0_hw67 => k0_hw67

def k0_chk68 (v701 : IVec S16 32) : Prop :=
  (∀ a x, ((![v701] : Fin 1 → IVec S16 32) a x).toNat < S4608.size a)
theorem k0_idx72_inb : ∀ (v701 : IVec S16 32) (k0_hw68 : k0_chk68 v701), ∀ a x, ((![v701] : Fin 1 → IVec S16 32) a x).toNat < S4608.size a := fun v701 k0_hw68 => k0_hw68

def k0_chk69 (v709 : IVec S16 32) : Prop :=
  (∀ a x, ((![v709] : Fin 1 → IVec S16 32) a x).toNat < S4608.size a)
theorem k0_idx73_inb : ∀ (v709 : IVec S16 32) (k0_hw69 : k0_chk69 v709), ∀ a x, ((![v709] : Fin 1 → IVec S16 32) a x).toNat < S4608.size a := fun v709 k0_hw69 => k0_hw69

def k0_chk70 (v717 : IVec S16 32) : Prop :=
  (∀ a x, ((![v717] : Fin 1 → IVec S16 32) a x).toNat < S4608.size a)
theorem k0_idx74_inb : ∀ (v717 : IVec S16 32) (k0_hw70 : k0_chk70 v717), ∀ a x, ((![v717] : Fin 1 → IVec S16 32) a x).toNat < S4608.size a := fun v717 k0_hw70 => k0_hw70

def k0_chk71 (v725 : IVec S16 32) : Prop :=
  (∀ a x, ((![v725] : Fin 1 → IVec S16 32) a x).toNat < S4608.size a)
theorem k0_idx75_inb : ∀ (v725 : IVec S16 32) (k0_hw71 : k0_chk71 v725), ∀ a x, ((![v725] : Fin 1 → IVec S16 32) a x).toNat < S4608.size a := fun v725 k0_hw71 => k0_hw71

def k0_chk72 (v733 : IVec S16 32) : Prop :=
  (∀ a x, ((![v733] : Fin 1 → IVec S16 32) a x).toNat < S4608.size a)
theorem k0_idx76_inb : ∀ (v733 : IVec S16 32) (k0_hw72 : k0_chk72 v733), ∀ a x, ((![v733] : Fin 1 → IVec S16 32) a x).toNat < S4608.size a := fun v733 k0_hw72 => k0_hw72

def k0_chk73 (v741 : IVec S16 32) : Prop :=
  (∀ a x, ((![v741] : Fin 1 → IVec S16 32) a x).toNat < S4608.size a)
theorem k0_idx77_inb : ∀ (v741 : IVec S16 32) (k0_hw73 : k0_chk73 v741), ∀ a x, ((![v741] : Fin 1 → IVec S16 32) a x).toNat < S4608.size a := fun v741 k0_hw73 => k0_hw73

def k0_chk74 (v749 : IVec S16 32) : Prop :=
  (∀ a x, ((![v749] : Fin 1 → IVec S16 32) a x).toNat < S4608.size a)
theorem k0_idx78_inb : ∀ (v749 : IVec S16 32) (k0_hw74 : k0_chk74 v749), ∀ a x, ((![v749] : Fin 1 → IVec S16 32) a x).toNat < S4608.size a := fun v749 k0_hw74 => k0_hw74

def k0_chk75 (v757 : IVec S16 32) : Prop :=
  (∀ a x, ((![v757] : Fin 1 → IVec S16 32) a x).toNat < S4608.size a)
theorem k0_idx79_inb : ∀ (v757 : IVec S16 32) (k0_hw75 : k0_chk75 v757), ∀ a x, ((![v757] : Fin 1 → IVec S16 32) a x).toNat < S4608.size a := fun v757 k0_hw75 => k0_hw75

def k0_chk76 (v765 : IVec S16 32) : Prop :=
  (∀ a x, ((![v765] : Fin 1 → IVec S16 32) a x).toNat < S4608.size a)
theorem k0_idx80_inb : ∀ (v765 : IVec S16 32) (k0_hw76 : k0_chk76 v765), ∀ a x, ((![v765] : Fin 1 → IVec S16 32) a x).toNat < S4608.size a := fun v765 k0_hw76 => k0_hw76

def k0_chk77 (v773 : IVec S16 32) : Prop :=
  (∀ a x, ((![v773] : Fin 1 → IVec S16 32) a x).toNat < S4608.size a)
theorem k0_idx81_inb : ∀ (v773 : IVec S16 32) (k0_hw77 : k0_chk77 v773), ∀ a x, ((![v773] : Fin 1 → IVec S16 32) a x).toNat < S4608.size a := fun v773 k0_hw77 => k0_hw77

def k0_chk78 (v781 : IVec S16 32) : Prop :=
  (∀ a x, ((![v781] : Fin 1 → IVec S16 32) a x).toNat < S4608.size a)
theorem k0_idx82_inb : ∀ (v781 : IVec S16 32) (k0_hw78 : k0_chk78 v781), ∀ a x, ((![v781] : Fin 1 → IVec S16 32) a x).toNat < S4608.size a := fun v781 k0_hw78 => k0_hw78

def k0_chk79 (v789 : IVec S16 32) : Prop :=
  (∀ a x, ((![v789] : Fin 1 → IVec S16 32) a x).toNat < S4608.size a)
theorem k0_idx83_inb : ∀ (v789 : IVec S16 32) (k0_hw79 : k0_chk79 v789), ∀ a x, ((![v789] : Fin 1 → IVec S16 32) a x).toNat < S4608.size a := fun v789 k0_hw79 => k0_hw79

def k0_chk80 (v797 : IVec S16 32) : Prop :=
  (∀ a x, ((![v797] : Fin 1 → IVec S16 32) a x).toNat < S4608.size a)
theorem k0_idx84_inb : ∀ (v797 : IVec S16 32) (k0_hw80 : k0_chk80 v797), ∀ a x, ((![v797] : Fin 1 → IVec S16 32) a x).toNat < S4608.size a := fun v797 k0_hw80 => k0_hw80

def k0_chk81 (v805 : IVec S16 32) : Prop :=
  (∀ a x, ((![v805] : Fin 1 → IVec S16 32) a x).toNat < S4608.size a)
theorem k0_idx85_inb : ∀ (v805 : IVec S16 32) (k0_hw81 : k0_chk81 v805), ∀ a x, ((![v805] : Fin 1 → IVec S16 32) a x).toNat < S4608.size a := fun v805 k0_hw81 => k0_hw81

def k0_chk82 (v820 : IVec S16 32) : Prop :=
  (∀ a x, ((![v820] : Fin 1 → IVec S16 32) a x).toNat < S4608.size a)
theorem k0_idx87_inb : ∀ (v820 : IVec S16 32) (k0_hw82 : k0_chk82 v820), ∀ a x, ((![v820] : Fin 1 → IVec S16 32) a x).toNat < S4608.size a := fun v820 k0_hw82 => k0_hw82

def k0_chk83 (v828 : IVec S16 32) : Prop :=
  (∀ a x, ((![v828] : Fin 1 → IVec S16 32) a x).toNat < S4608.size a)
theorem k0_idx88_inb : ∀ (v828 : IVec S16 32) (k0_hw83 : k0_chk83 v828), ∀ a x, ((![v828] : Fin 1 → IVec S16 32) a x).toNat < S4608.size a := fun v828 k0_hw83 => k0_hw83

def k0_chk84 (v836 : IVec S16 32) : Prop :=
  (∀ a x, ((![v836] : Fin 1 → IVec S16 32) a x).toNat < S4608.size a)
theorem k0_idx89_inb : ∀ (v836 : IVec S16 32) (k0_hw84 : k0_chk84 v836), ∀ a x, ((![v836] : Fin 1 → IVec S16 32) a x).toNat < S4608.size a := fun v836 k0_hw84 => k0_hw84

def k0_chk85 (v844 : IVec S16 32) : Prop :=
  (∀ a x, ((![v844] : Fin 1 → IVec S16 32) a x).toNat < S4608.size a)
theorem k0_idx90_inb : ∀ (v844 : IVec S16 32) (k0_hw85 : k0_chk85 v844), ∀ a x, ((![v844] : Fin 1 → IVec S16 32) a x).toNat < S4608.size a := fun v844 k0_hw85 => k0_hw85

def k0_chk86 (v852 : IVec S16 32) : Prop :=
  (∀ a x, ((![v852] : Fin 1 → IVec S16 32) a x).toNat < S4608.size a)
theorem k0_idx91_inb : ∀ (v852 : IVec S16 32) (k0_hw86 : k0_chk86 v852), ∀ a x, ((![v852] : Fin 1 → IVec S16 32) a x).toNat < S4608.size a := fun v852 k0_hw86 => k0_hw86

def k0_chk87 (v860 : IVec S16 32) : Prop :=
  (∀ a x, ((![v860] : Fin 1 → IVec S16 32) a x).toNat < S4608.size a)
theorem k0_idx92_inb : ∀ (v860 : IVec S16 32) (k0_hw87 : k0_chk87 v860), ∀ a x, ((![v860] : Fin 1 → IVec S16 32) a x).toNat < S4608.size a := fun v860 k0_hw87 => k0_hw87

def k0_chk88 (v868 : IVec S16 32) : Prop :=
  (∀ a x, ((![v868] : Fin 1 → IVec S16 32) a x).toNat < S4608.size a)
theorem k0_idx93_inb : ∀ (v868 : IVec S16 32) (k0_hw88 : k0_chk88 v868), ∀ a x, ((![v868] : Fin 1 → IVec S16 32) a x).toNat < S4608.size a := fun v868 k0_hw88 => k0_hw88

def k0_chk89 (v876 : IVec S16 32) : Prop :=
  (∀ a x, ((![v876] : Fin 1 → IVec S16 32) a x).toNat < S4608.size a)
theorem k0_idx94_inb : ∀ (v876 : IVec S16 32) (k0_hw89 : k0_chk89 v876), ∀ a x, ((![v876] : Fin 1 → IVec S16 32) a x).toNat < S4608.size a := fun v876 k0_hw89 => k0_hw89

def k0_chk90 (v884 : IVec S16 32) : Prop :=
  (∀ a x, ((![v884] : Fin 1 → IVec S16 32) a x).toNat < S4608.size a)
theorem k0_idx95_inb : ∀ (v884 : IVec S16 32) (k0_hw90 : k0_chk90 v884), ∀ a x, ((![v884] : Fin 1 → IVec S16 32) a x).toNat < S4608.size a := fun v884 k0_hw90 => k0_hw90

def k0_chk91 (v892 : IVec S16 32) : Prop :=
  (∀ a x, ((![v892] : Fin 1 → IVec S16 32) a x).toNat < S4608.size a)
theorem k0_idx96_inb : ∀ (v892 : IVec S16 32) (k0_hw91 : k0_chk91 v892), ∀ a x, ((![v892] : Fin 1 → IVec S16 32) a x).toNat < S4608.size a := fun v892 k0_hw91 => k0_hw91

def k0_chk92 (v900 : IVec S16 32) : Prop :=
  (∀ a x, ((![v900] : Fin 1 → IVec S16 32) a x).toNat < S4608.size a)
theorem k0_idx97_inb : ∀ (v900 : IVec S16 32) (k0_hw92 : k0_chk92 v900), ∀ a x, ((![v900] : Fin 1 → IVec S16 32) a x).toNat < S4608.size a := fun v900 k0_hw92 => k0_hw92

def k0_chk93 (v908 : IVec S16 32) : Prop :=
  (∀ a x, ((![v908] : Fin 1 → IVec S16 32) a x).toNat < S4608.size a)
theorem k0_idx98_inb : ∀ (v908 : IVec S16 32) (k0_hw93 : k0_chk93 v908), ∀ a x, ((![v908] : Fin 1 → IVec S16 32) a x).toNat < S4608.size a := fun v908 k0_hw93 => k0_hw93

def k0_chk94 (v916 : IVec S16 32) : Prop :=
  (∀ a x, ((![v916] : Fin 1 → IVec S16 32) a x).toNat < S4608.size a)
theorem k0_idx99_inb : ∀ (v916 : IVec S16 32) (k0_hw94 : k0_chk94 v916), ∀ a x, ((![v916] : Fin 1 → IVec S16 32) a x).toNat < S4608.size a := fun v916 k0_hw94 => k0_hw94

def k0_chk95 (v924 : IVec S16 32) : Prop :=
  (∀ a x, ((![v924] : Fin 1 → IVec S16 32) a x).toNat < S4608.size a)
theorem k0_idx100_inb : ∀ (v924 : IVec S16 32) (k0_hw95 : k0_chk95 v924), ∀ a x, ((![v924] : Fin 1 → IVec S16 32) a x).toNat < S4608.size a := fun v924 k0_hw95 => k0_hw95

def k0_chk96 (v932 : IVec S16 32) : Prop :=
  (∀ a x, ((![v932] : Fin 1 → IVec S16 32) a x).toNat < S4608.size a)
theorem k0_idx101_inb : ∀ (v932 : IVec S16 32) (k0_hw96 : k0_chk96 v932), ∀ a x, ((![v932] : Fin 1 → IVec S16 32) a x).toNat < S4608.size a := fun v932 k0_hw96 => k0_hw96

def k0_chk97 (v940 : IVec S16 32) : Prop :=
  (∀ a x, ((![v940] : Fin 1 → IVec S16 32) a x).toNat < S4608.size a)
theorem k0_idx102_inb : ∀ (v940 : IVec S16 32) (k0_hw97 : k0_chk97 v940), ∀ a x, ((![v940] : Fin 1 → IVec S16 32) a x).toNat < S4608.size a := fun v940 k0_hw97 => k0_hw97

def k0_chk98 (v955 : IVec S16 32) : Prop :=
  (∀ a x, ((![v955] : Fin 1 → IVec S16 32) a x).toNat < S4608.size a)
theorem k0_idx104_inb : ∀ (v955 : IVec S16 32) (k0_hw98 : k0_chk98 v955), ∀ a x, ((![v955] : Fin 1 → IVec S16 32) a x).toNat < S4608.size a := fun v955 k0_hw98 => k0_hw98

def k0_chk99 (v963 : IVec S16 32) : Prop :=
  (∀ a x, ((![v963] : Fin 1 → IVec S16 32) a x).toNat < S4608.size a)
theorem k0_idx105_inb : ∀ (v963 : IVec S16 32) (k0_hw99 : k0_chk99 v963), ∀ a x, ((![v963] : Fin 1 → IVec S16 32) a x).toNat < S4608.size a := fun v963 k0_hw99 => k0_hw99

def k0_chk100 (v971 : IVec S16 32) : Prop :=
  (∀ a x, ((![v971] : Fin 1 → IVec S16 32) a x).toNat < S4608.size a)
theorem k0_idx106_inb : ∀ (v971 : IVec S16 32) (k0_hw100 : k0_chk100 v971), ∀ a x, ((![v971] : Fin 1 → IVec S16 32) a x).toNat < S4608.size a := fun v971 k0_hw100 => k0_hw100

def k0_chk101 (v979 : IVec S16 32) : Prop :=
  (∀ a x, ((![v979] : Fin 1 → IVec S16 32) a x).toNat < S4608.size a)
theorem k0_idx107_inb : ∀ (v979 : IVec S16 32) (k0_hw101 : k0_chk101 v979), ∀ a x, ((![v979] : Fin 1 → IVec S16 32) a x).toNat < S4608.size a := fun v979 k0_hw101 => k0_hw101

def k0_chk102 (v987 : IVec S16 32) : Prop :=
  (∀ a x, ((![v987] : Fin 1 → IVec S16 32) a x).toNat < S4608.size a)
theorem k0_idx108_inb : ∀ (v987 : IVec S16 32) (k0_hw102 : k0_chk102 v987), ∀ a x, ((![v987] : Fin 1 → IVec S16 32) a x).toNat < S4608.size a := fun v987 k0_hw102 => k0_hw102

def k0_chk103 (v995 : IVec S16 32) : Prop :=
  (∀ a x, ((![v995] : Fin 1 → IVec S16 32) a x).toNat < S4608.size a)
theorem k0_idx109_inb : ∀ (v995 : IVec S16 32) (k0_hw103 : k0_chk103 v995), ∀ a x, ((![v995] : Fin 1 → IVec S16 32) a x).toNat < S4608.size a := fun v995 k0_hw103 => k0_hw103

def k0_chk104 (v1003 : IVec S16 32) : Prop :=
  (∀ a x, ((![v1003] : Fin 1 → IVec S16 32) a x).toNat < S4608.size a)
theorem k0_idx110_inb : ∀ (v1003 : IVec S16 32) (k0_hw104 : k0_chk104 v1003), ∀ a x, ((![v1003] : Fin 1 → IVec S16 32) a x).toNat < S4608.size a := fun v1003 k0_hw104 => k0_hw104

def k0_chk105 (v1011 : IVec S16 32) : Prop :=
  (∀ a x, ((![v1011] : Fin 1 → IVec S16 32) a x).toNat < S4608.size a)
theorem k0_idx111_inb : ∀ (v1011 : IVec S16 32) (k0_hw105 : k0_chk105 v1011), ∀ a x, ((![v1011] : Fin 1 → IVec S16 32) a x).toNat < S4608.size a := fun v1011 k0_hw105 => k0_hw105

def k0_chk106 (v1019 : IVec S16 32) : Prop :=
  (∀ a x, ((![v1019] : Fin 1 → IVec S16 32) a x).toNat < S4608.size a)
theorem k0_idx112_inb : ∀ (v1019 : IVec S16 32) (k0_hw106 : k0_chk106 v1019), ∀ a x, ((![v1019] : Fin 1 → IVec S16 32) a x).toNat < S4608.size a := fun v1019 k0_hw106 => k0_hw106

def k0_chk107 (v1027 : IVec S16 32) : Prop :=
  (∀ a x, ((![v1027] : Fin 1 → IVec S16 32) a x).toNat < S4608.size a)
theorem k0_idx113_inb : ∀ (v1027 : IVec S16 32) (k0_hw107 : k0_chk107 v1027), ∀ a x, ((![v1027] : Fin 1 → IVec S16 32) a x).toNat < S4608.size a := fun v1027 k0_hw107 => k0_hw107

def k0_chk108 (v1035 : IVec S16 32) : Prop :=
  (∀ a x, ((![v1035] : Fin 1 → IVec S16 32) a x).toNat < S4608.size a)
theorem k0_idx114_inb : ∀ (v1035 : IVec S16 32) (k0_hw108 : k0_chk108 v1035), ∀ a x, ((![v1035] : Fin 1 → IVec S16 32) a x).toNat < S4608.size a := fun v1035 k0_hw108 => k0_hw108

def k0_chk109 (v1043 : IVec S16 32) : Prop :=
  (∀ a x, ((![v1043] : Fin 1 → IVec S16 32) a x).toNat < S4608.size a)
theorem k0_idx115_inb : ∀ (v1043 : IVec S16 32) (k0_hw109 : k0_chk109 v1043), ∀ a x, ((![v1043] : Fin 1 → IVec S16 32) a x).toNat < S4608.size a := fun v1043 k0_hw109 => k0_hw109

def k0_chk110 (v1051 : IVec S16 32) : Prop :=
  (∀ a x, ((![v1051] : Fin 1 → IVec S16 32) a x).toNat < S4608.size a)
theorem k0_idx116_inb : ∀ (v1051 : IVec S16 32) (k0_hw110 : k0_chk110 v1051), ∀ a x, ((![v1051] : Fin 1 → IVec S16 32) a x).toNat < S4608.size a := fun v1051 k0_hw110 => k0_hw110

def k0_chk111 (v1059 : IVec S16 32) : Prop :=
  (∀ a x, ((![v1059] : Fin 1 → IVec S16 32) a x).toNat < S4608.size a)
theorem k0_idx117_inb : ∀ (v1059 : IVec S16 32) (k0_hw111 : k0_chk111 v1059), ∀ a x, ((![v1059] : Fin 1 → IVec S16 32) a x).toNat < S4608.size a := fun v1059 k0_hw111 => k0_hw111

def k0_chk112 (v1067 : IVec S16 32) : Prop :=
  (∀ a x, ((![v1067] : Fin 1 → IVec S16 32) a x).toNat < S4608.size a)
theorem k0_idx118_inb : ∀ (v1067 : IVec S16 32) (k0_hw112 : k0_chk112 v1067), ∀ a x, ((![v1067] : Fin 1 → IVec S16 32) a x).toNat < S4608.size a := fun v1067 k0_hw112 => k0_hw112

def k0_chk113 (v1075 : IVec S16 32) : Prop :=
  (∀ a x, ((![v1075] : Fin 1 → IVec S16 32) a x).toNat < S4608.size a)
theorem k0_idx119_inb : ∀ (v1075 : IVec S16 32) (k0_hw113 : k0_chk113 v1075), ∀ a x, ((![v1075] : Fin 1 → IVec S16 32) a x).toNat < S4608.size a := fun v1075 k0_hw113 => k0_hw113

def k0_chk1 (v11 : IVec S16 32) (v17 : IVec S16 32) (v23 : IVec S16 32) (v29 : IVec S16 32) (v35 : IVec S16 32) (v41 : IVec S16 32) (v47 : IVec S16 32) (v53 : IVec S16 32) (v130 : IVec S16 32) : Prop :=
  (∀ a x, ((![v130, v11] : Fin 2 → IVec S16 32) a x).toNat < S8x112.size a) ∧
  (∀ a x, ((![v130, v17] : Fin 2 → IVec S16 32) a x).toNat < S8x112.size a) ∧
  (∀ a x, ((![v130, v23] : Fin 2 → IVec S16 32) a x).toNat < S8x112.size a) ∧
  (∀ a x, ((![v130, v29] : Fin 2 → IVec S16 32) a x).toNat < S8x112.size a) ∧
  (∀ a x, ((![v130, v35] : Fin 2 → IVec S16 32) a x).toNat < S8x112.size a) ∧
  (∀ a x, ((![v130, v41] : Fin 2 → IVec S16 32) a x).toNat < S8x112.size a) ∧
  (∀ a x, ((![v130, v47] : Fin 2 → IVec S16 32) a x).toNat < S8x112.size a) ∧
  (∀ a x, ((![v130, v53] : Fin 2 → IVec S16 32) a x).toNat < S8x112.size a)
theorem k0_idx1_inb : ∀ (v11 : IVec S16 32) (v17 : IVec S16 32) (v23 : IVec S16 32) (v29 : IVec S16 32) (v35 : IVec S16 32) (v41 : IVec S16 32) (v47 : IVec S16 32) (v53 : IVec S16 32) (v130 : IVec S16 32) (k0_hw1 : k0_chk1 v11 v17 v23 v29 v35 v41 v47 v53 v130), ∀ a x, ((![v130, v11] : Fin 2 → IVec S16 32) a x).toNat < S8x112.size a := fun v11 v17 v23 v29 v35 v41 v47 v53 v130 k0_hw1 => k0_hw1.1
theorem k0_idx18_inb : ∀ (v11 : IVec S16 32) (v17 : IVec S16 32) (v23 : IVec S16 32) (v29 : IVec S16 32) (v35 : IVec S16 32) (v41 : IVec S16 32) (v47 : IVec S16 32) (v53 : IVec S16 32) (v130 : IVec S16 32) (k0_hw1 : k0_chk1 v11 v17 v23 v29 v35 v41 v47 v53 v130), ∀ a x, ((![v130, v17] : Fin 2 → IVec S16 32) a x).toNat < S8x112.size a := fun v11 v17 v23 v29 v35 v41 v47 v53 v130 k0_hw1 => k0_hw1.2.1
theorem k0_idx35_inb : ∀ (v11 : IVec S16 32) (v17 : IVec S16 32) (v23 : IVec S16 32) (v29 : IVec S16 32) (v35 : IVec S16 32) (v41 : IVec S16 32) (v47 : IVec S16 32) (v53 : IVec S16 32) (v130 : IVec S16 32) (k0_hw1 : k0_chk1 v11 v17 v23 v29 v35 v41 v47 v53 v130), ∀ a x, ((![v130, v23] : Fin 2 → IVec S16 32) a x).toNat < S8x112.size a := fun v11 v17 v23 v29 v35 v41 v47 v53 v130 k0_hw1 => k0_hw1.2.2.1
theorem k0_idx52_inb : ∀ (v11 : IVec S16 32) (v17 : IVec S16 32) (v23 : IVec S16 32) (v29 : IVec S16 32) (v35 : IVec S16 32) (v41 : IVec S16 32) (v47 : IVec S16 32) (v53 : IVec S16 32) (v130 : IVec S16 32) (k0_hw1 : k0_chk1 v11 v17 v23 v29 v35 v41 v47 v53 v130), ∀ a x, ((![v130, v29] : Fin 2 → IVec S16 32) a x).toNat < S8x112.size a := fun v11 v17 v23 v29 v35 v41 v47 v53 v130 k0_hw1 => k0_hw1.2.2.2.1
theorem k0_idx69_inb : ∀ (v11 : IVec S16 32) (v17 : IVec S16 32) (v23 : IVec S16 32) (v29 : IVec S16 32) (v35 : IVec S16 32) (v41 : IVec S16 32) (v47 : IVec S16 32) (v53 : IVec S16 32) (v130 : IVec S16 32) (k0_hw1 : k0_chk1 v11 v17 v23 v29 v35 v41 v47 v53 v130), ∀ a x, ((![v130, v35] : Fin 2 → IVec S16 32) a x).toNat < S8x112.size a := fun v11 v17 v23 v29 v35 v41 v47 v53 v130 k0_hw1 => k0_hw1.2.2.2.2.1
theorem k0_idx86_inb : ∀ (v11 : IVec S16 32) (v17 : IVec S16 32) (v23 : IVec S16 32) (v29 : IVec S16 32) (v35 : IVec S16 32) (v41 : IVec S16 32) (v47 : IVec S16 32) (v53 : IVec S16 32) (v130 : IVec S16 32) (k0_hw1 : k0_chk1 v11 v17 v23 v29 v35 v41 v47 v53 v130), ∀ a x, ((![v130, v41] : Fin 2 → IVec S16 32) a x).toNat < S8x112.size a := fun v11 v17 v23 v29 v35 v41 v47 v53 v130 k0_hw1 => k0_hw1.2.2.2.2.2.1
theorem k0_idx103_inb : ∀ (v11 : IVec S16 32) (v17 : IVec S16 32) (v23 : IVec S16 32) (v29 : IVec S16 32) (v35 : IVec S16 32) (v41 : IVec S16 32) (v47 : IVec S16 32) (v53 : IVec S16 32) (v130 : IVec S16 32) (k0_hw1 : k0_chk1 v11 v17 v23 v29 v35 v41 v47 v53 v130), ∀ a x, ((![v130, v47] : Fin 2 → IVec S16 32) a x).toNat < S8x112.size a := fun v11 v17 v23 v29 v35 v41 v47 v53 v130 k0_hw1 => k0_hw1.2.2.2.2.2.2.1
theorem k0_idx120_inb : ∀ (v11 : IVec S16 32) (v17 : IVec S16 32) (v23 : IVec S16 32) (v29 : IVec S16 32) (v35 : IVec S16 32) (v41 : IVec S16 32) (v47 : IVec S16 32) (v53 : IVec S16 32) (v130 : IVec S16 32) (k0_hw1 : k0_chk1 v11 v17 v23 v29 v35 v41 v47 v53 v130), ∀ a x, ((![v130, v53] : Fin 2 → IVec S16 32) a x).toNat < S8x112.size a := fun v11 v17 v23 v29 v35 v41 v47 v53 v130 k0_hw1 => k0_hw1.2.2.2.2.2.2.2

def k0_chk114 (v1090 : IVec S16 32) : Prop :=
  (∀ a x, ((![v1090] : Fin 1 → IVec S16 32) a x).toNat < S4608.size a)
theorem k0_idx121_inb : ∀ (v1090 : IVec S16 32) (k0_hw114 : k0_chk114 v1090), ∀ a x, ((![v1090] : Fin 1 → IVec S16 32) a x).toNat < S4608.size a := fun v1090 k0_hw114 => k0_hw114

def k0_chk115 (v1098 : IVec S16 32) : Prop :=
  (∀ a x, ((![v1098] : Fin 1 → IVec S16 32) a x).toNat < S4608.size a)
theorem k0_idx122_inb : ∀ (v1098 : IVec S16 32) (k0_hw115 : k0_chk115 v1098), ∀ a x, ((![v1098] : Fin 1 → IVec S16 32) a x).toNat < S4608.size a := fun v1098 k0_hw115 => k0_hw115

def k0_chk116 (v1106 : IVec S16 32) : Prop :=
  (∀ a x, ((![v1106] : Fin 1 → IVec S16 32) a x).toNat < S4608.size a)
theorem k0_idx123_inb : ∀ (v1106 : IVec S16 32) (k0_hw116 : k0_chk116 v1106), ∀ a x, ((![v1106] : Fin 1 → IVec S16 32) a x).toNat < S4608.size a := fun v1106 k0_hw116 => k0_hw116

def k0_chk117 (v1114 : IVec S16 32) : Prop :=
  (∀ a x, ((![v1114] : Fin 1 → IVec S16 32) a x).toNat < S4608.size a)
theorem k0_idx124_inb : ∀ (v1114 : IVec S16 32) (k0_hw117 : k0_chk117 v1114), ∀ a x, ((![v1114] : Fin 1 → IVec S16 32) a x).toNat < S4608.size a := fun v1114 k0_hw117 => k0_hw117

def k0_chk118 (v1122 : IVec S16 32) : Prop :=
  (∀ a x, ((![v1122] : Fin 1 → IVec S16 32) a x).toNat < S4608.size a)
theorem k0_idx125_inb : ∀ (v1122 : IVec S16 32) (k0_hw118 : k0_chk118 v1122), ∀ a x, ((![v1122] : Fin 1 → IVec S16 32) a x).toNat < S4608.size a := fun v1122 k0_hw118 => k0_hw118

def k0_chk119 (v1130 : IVec S16 32) : Prop :=
  (∀ a x, ((![v1130] : Fin 1 → IVec S16 32) a x).toNat < S4608.size a)
theorem k0_idx126_inb : ∀ (v1130 : IVec S16 32) (k0_hw119 : k0_chk119 v1130), ∀ a x, ((![v1130] : Fin 1 → IVec S16 32) a x).toNat < S4608.size a := fun v1130 k0_hw119 => k0_hw119

def k0_chk120 (v1138 : IVec S16 32) : Prop :=
  (∀ a x, ((![v1138] : Fin 1 → IVec S16 32) a x).toNat < S4608.size a)
theorem k0_idx127_inb : ∀ (v1138 : IVec S16 32) (k0_hw120 : k0_chk120 v1138), ∀ a x, ((![v1138] : Fin 1 → IVec S16 32) a x).toNat < S4608.size a := fun v1138 k0_hw120 => k0_hw120

def k0_chk121 (v1146 : IVec S16 32) : Prop :=
  (∀ a x, ((![v1146] : Fin 1 → IVec S16 32) a x).toNat < S4608.size a)
theorem k0_idx128_inb : ∀ (v1146 : IVec S16 32) (k0_hw121 : k0_chk121 v1146), ∀ a x, ((![v1146] : Fin 1 → IVec S16 32) a x).toNat < S4608.size a := fun v1146 k0_hw121 => k0_hw121

def k0_chk122 (v1154 : IVec S16 32) : Prop :=
  (∀ a x, ((![v1154] : Fin 1 → IVec S16 32) a x).toNat < S4608.size a)
theorem k0_idx129_inb : ∀ (v1154 : IVec S16 32) (k0_hw122 : k0_chk122 v1154), ∀ a x, ((![v1154] : Fin 1 → IVec S16 32) a x).toNat < S4608.size a := fun v1154 k0_hw122 => k0_hw122

def k0_chk123 (v1162 : IVec S16 32) : Prop :=
  (∀ a x, ((![v1162] : Fin 1 → IVec S16 32) a x).toNat < S4608.size a)
theorem k0_idx130_inb : ∀ (v1162 : IVec S16 32) (k0_hw123 : k0_chk123 v1162), ∀ a x, ((![v1162] : Fin 1 → IVec S16 32) a x).toNat < S4608.size a := fun v1162 k0_hw123 => k0_hw123

def k0_chk124 (v1170 : IVec S16 32) : Prop :=
  (∀ a x, ((![v1170] : Fin 1 → IVec S16 32) a x).toNat < S4608.size a)
theorem k0_idx131_inb : ∀ (v1170 : IVec S16 32) (k0_hw124 : k0_chk124 v1170), ∀ a x, ((![v1170] : Fin 1 → IVec S16 32) a x).toNat < S4608.size a := fun v1170 k0_hw124 => k0_hw124

def k0_chk125 (v1178 : IVec S16 32) : Prop :=
  (∀ a x, ((![v1178] : Fin 1 → IVec S16 32) a x).toNat < S4608.size a)
theorem k0_idx132_inb : ∀ (v1178 : IVec S16 32) (k0_hw125 : k0_chk125 v1178), ∀ a x, ((![v1178] : Fin 1 → IVec S16 32) a x).toNat < S4608.size a := fun v1178 k0_hw125 => k0_hw125

def k0_chk126 (v1186 : IVec S16 32) : Prop :=
  (∀ a x, ((![v1186] : Fin 1 → IVec S16 32) a x).toNat < S4608.size a)
theorem k0_idx133_inb : ∀ (v1186 : IVec S16 32) (k0_hw126 : k0_chk126 v1186), ∀ a x, ((![v1186] : Fin 1 → IVec S16 32) a x).toNat < S4608.size a := fun v1186 k0_hw126 => k0_hw126

def k0_chk127 (v1194 : IVec S16 32) : Prop :=
  (∀ a x, ((![v1194] : Fin 1 → IVec S16 32) a x).toNat < S4608.size a)
theorem k0_idx134_inb : ∀ (v1194 : IVec S16 32) (k0_hw127 : k0_chk127 v1194), ∀ a x, ((![v1194] : Fin 1 → IVec S16 32) a x).toNat < S4608.size a := fun v1194 k0_hw127 => k0_hw127

def k0_chk128 (v1202 : IVec S16 32) : Prop :=
  (∀ a x, ((![v1202] : Fin 1 → IVec S16 32) a x).toNat < S4608.size a)
theorem k0_idx135_inb : ∀ (v1202 : IVec S16 32) (k0_hw128 : k0_chk128 v1202), ∀ a x, ((![v1202] : Fin 1 → IVec S16 32) a x).toNat < S4608.size a := fun v1202 k0_hw128 => k0_hw128

def k0_chk129 (v1210 : IVec S16 32) : Prop :=
  (∀ a x, ((![v1210] : Fin 1 → IVec S16 32) a x).toNat < S4608.size a)
theorem k0_idx136_inb : ∀ (v1210 : IVec S16 32) (k0_hw129 : k0_chk129 v1210), ∀ a x, ((![v1210] : Fin 1 → IVec S16 32) a x).toNat < S4608.size a := fun v1210 k0_hw129 => k0_hw129
@[reducible] def k0_t4_loop : Scf.Loop 32 :=
  let c0_i32_96 : BitVec 32 := 0#32
  let c14_i32_97 : BitVec 32 := 14#32
  let v122 : BitVec 32 := Scalar.addi c0_i32_96 c14_i32_97
  let c1_i32_98 : BitVec 32 := 1#32
  ⟨c0_i32_96, v122, c1_i32_98⟩
def k0_off3 (k0_t4 : Fin k0_t4_loop.trips) (c0_i32_108 : BitVec 32) : Fin 1 → Nat :=
  let c0_i32_96 : BitVec 32 := 0#32
  let c1_i32_98 : BitVec 32 := 1#32
  let arg9 : BitVec 32 := Scf.iv c0_i32_96 c1_i32_98 k0_t4
  let c288_i32_107 : BitVec 32 := 288#32
  let v130 : BitVec 32 := Scalar.muli arg9 c288_i32_107
  let c16_i32 : BitVec 32 := 16#32
  let v131 : BitVec 32 := Scalar.addi v130 c16_i32
  let v132 : BitVec 32 := Scalar.addi v131 c0_i32_108
  let v133 : Index := Scalar.indexCast v132
  ![v133.toNat]
def k0_off4 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v137 : Index := Scalar.indexCast arg8
  let c0_i32_96 : BitVec 32 := 0#32
  let c1_i32_98 : BitVec 32 := 1#32
  let arg9 : BitVec 32 := Scf.iv c0_i32_96 c1_i32_98 k0_t4
  let v138 : Index := Scalar.indexCast arg9
  let c0 : Index := 0#32
  ![v137.toNat, v138.toNat, 0]
def k0_off5 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v147 : Index := Scalar.indexCast arg8
  let c0_i32_96 : BitVec 32 := 0#32
  let c1_i32_98 : BitVec 32 := 1#32
  let arg9 : BitVec 32 := Scf.iv c0_i32_96 c1_i32_98 k0_t4
  let v148 : Index := Scalar.indexCast arg9
  let c16 : Index := 16#32
  ![v147.toNat, v148.toNat, 16]
def k0_off6 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v157 : Index := Scalar.indexCast arg8
  let c0_i32_96 : BitVec 32 := 0#32
  let c1_i32_98 : BitVec 32 := 1#32
  let arg9 : BitVec 32 := Scf.iv c0_i32_96 c1_i32_98 k0_t4
  let v158 : Index := Scalar.indexCast arg9
  let c32 : Index := 32#32
  ![v157.toNat, v158.toNat, 32]
def k0_off7 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v167 : Index := Scalar.indexCast arg8
  let c0_i32_96 : BitVec 32 := 0#32
  let c1_i32_98 : BitVec 32 := 1#32
  let arg9 : BitVec 32 := Scf.iv c0_i32_96 c1_i32_98 k0_t4
  let v168 : Index := Scalar.indexCast arg9
  let c48 : Index := 48#32
  ![v167.toNat, v168.toNat, 48]
def k0_off8 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v177 : Index := Scalar.indexCast arg8
  let c0_i32_96 : BitVec 32 := 0#32
  let c1_i32_98 : BitVec 32 := 1#32
  let arg9 : BitVec 32 := Scf.iv c0_i32_96 c1_i32_98 k0_t4
  let v178 : Index := Scalar.indexCast arg9
  let c64 : Index := 64#32
  ![v177.toNat, v178.toNat, 64]
def k0_off9 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v187 : Index := Scalar.indexCast arg8
  let c0_i32_96 : BitVec 32 := 0#32
  let c1_i32_98 : BitVec 32 := 1#32
  let arg9 : BitVec 32 := Scf.iv c0_i32_96 c1_i32_98 k0_t4
  let v188 : Index := Scalar.indexCast arg9
  let c80 : Index := 80#32
  ![v187.toNat, v188.toNat, 80]
def k0_off10 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v197 : Index := Scalar.indexCast arg8
  let c0_i32_96 : BitVec 32 := 0#32
  let c1_i32_98 : BitVec 32 := 1#32
  let arg9 : BitVec 32 := Scf.iv c0_i32_96 c1_i32_98 k0_t4
  let v198 : Index := Scalar.indexCast arg9
  let c96 : Index := 96#32
  ![v197.toNat, v198.toNat, 96]
def k0_off11 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v207 : Index := Scalar.indexCast arg8
  let c0_i32_96 : BitVec 32 := 0#32
  let c1_i32_98 : BitVec 32 := 1#32
  let arg9 : BitVec 32 := Scf.iv c0_i32_96 c1_i32_98 k0_t4
  let v208 : Index := Scalar.indexCast arg9
  let c112 : Index := 112#32
  ![v207.toNat, v208.toNat, 112]
def k0_off12 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v217 : Index := Scalar.indexCast arg8
  let c0_i32_96 : BitVec 32 := 0#32
  let c1_i32_98 : BitVec 32 := 1#32
  let arg9 : BitVec 32 := Scf.iv c0_i32_96 c1_i32_98 k0_t4
  let v218 : Index := Scalar.indexCast arg9
  let c128 : Index := 128#32
  ![v217.toNat, v218.toNat, 128]
def k0_off13 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v227 : Index := Scalar.indexCast arg8
  let c0_i32_96 : BitVec 32 := 0#32
  let c1_i32_98 : BitVec 32 := 1#32
  let arg9 : BitVec 32 := Scf.iv c0_i32_96 c1_i32_98 k0_t4
  let v228 : Index := Scalar.indexCast arg9
  let c144 : Index := 144#32
  ![v227.toNat, v228.toNat, 144]
def k0_off14 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v237 : Index := Scalar.indexCast arg8
  let c0_i32_96 : BitVec 32 := 0#32
  let c1_i32_98 : BitVec 32 := 1#32
  let arg9 : BitVec 32 := Scf.iv c0_i32_96 c1_i32_98 k0_t4
  let v238 : Index := Scalar.indexCast arg9
  let c160 : Index := 160#32
  ![v237.toNat, v238.toNat, 160]
def k0_off15 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v247 : Index := Scalar.indexCast arg8
  let c0_i32_96 : BitVec 32 := 0#32
  let c1_i32_98 : BitVec 32 := 1#32
  let arg9 : BitVec 32 := Scf.iv c0_i32_96 c1_i32_98 k0_t4
  let v248 : Index := Scalar.indexCast arg9
  let c176 : Index := 176#32
  ![v247.toNat, v248.toNat, 176]
def k0_off16 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v257 : Index := Scalar.indexCast arg8
  let c0_i32_96 : BitVec 32 := 0#32
  let c1_i32_98 : BitVec 32 := 1#32
  let arg9 : BitVec 32 := Scf.iv c0_i32_96 c1_i32_98 k0_t4
  let v258 : Index := Scalar.indexCast arg9
  let c192 : Index := 192#32
  ![v257.toNat, v258.toNat, 192]
def k0_off17 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v267 : Index := Scalar.indexCast arg8
  let c0_i32_96 : BitVec 32 := 0#32
  let c1_i32_98 : BitVec 32 := 1#32
  let arg9 : BitVec 32 := Scf.iv c0_i32_96 c1_i32_98 k0_t4
  let v268 : Index := Scalar.indexCast arg9
  let c208 : Index := 208#32
  ![v267.toNat, v268.toNat, 208]
def k0_off18 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v277 : Index := Scalar.indexCast arg8
  let c0_i32_96 : BitVec 32 := 0#32
  let c1_i32_98 : BitVec 32 := 1#32
  let arg9 : BitVec 32 := Scf.iv c0_i32_96 c1_i32_98 k0_t4
  let v278 : Index := Scalar.indexCast arg9
  let c224 : Index := 224#32
  ![v277.toNat, v278.toNat, 224]
def k0_off19 (k0_t2 : Fin k0_t2_loop.trips) (k0_t4 : Fin k0_t4_loop.trips) : Fin 3 → Nat :=
  let c0_i32_21 : BitVec 32 := 0#32
  let c1_i32_23 : BitVec 32 := 1#32
  let arg8 : BitVec 32 := Scf.iv c0_i32_21 c1_i32_23 k0_t2
  let v287 : Index := Scalar.indexCast arg8
  let c0_i32_96 : BitVec 32 := 0#32
  let c1_i32_98 : BitVec 32 := 1#32
  let arg9 : BitVec 32 := Scf.iv c0_i32_96 c1_i32_98 k0_t4
  let v288 : Index := Scalar.indexCast arg9
  let c240 : Index := 240#32
  ![v287.toNat, v288.toNat, 240]
def k0_off20 (k0_t2 : Fin k0_t2_loop.trips) : Fin 3 → Nat :=
  let c0_i32_21 : BitVec 32 := 0#32
  let c1_i32_23 : BitVec 32 := 1#32
  let arg8 : BitVec 32 := Scf.iv c0_i32_21 c1_i32_23 k0_t2
  let c0_i32_101 : BitVec 32 := 0#32
  let c0_i32_102 : BitVec 32 := 0#32
  ![arg8.toNat, 0, 0]
def k0_off21 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_89 : BitVec 32 := 7#32
  let v119 : BitVec 32 := Scalar.muli v1 c7_i32_89
  let c0_i32_21 : BitVec 32 := 0#32
  let c1_i32_23 : BitVec 32 := 1#32
  let arg8 : BitVec 32 := Scf.iv c0_i32_21 c1_i32_23 k0_t2
  let v120 : BitVec 32 := Scalar.addi v119 arg8
  let c14_i32_100 : BitVec 32 := 14#32
  let v123 : BitVec 32 := Scalar.muli v120 c14_i32_100
  let c0_i32_103 : BitVec 32 := 0#32
  ![v123.toNat, 0]
def k0_off22 (i : grid0.Coords) (c0_i32_26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_25 : BitVec 32 := 7#32
  let v56 : BitVec 32 := Scalar.muli v1 c7_i32_25
  let c14_i32 : BitVec 32 := 14#32
  let v57 : BitVec 32 := Scalar.muli v56 c14_i32
  let v58 : BitVec 32 := Scalar.addi v57 c0_i32_26
  let c0_i32_30 : BitVec 32 := 0#32
  ![v58.toNat, 0]
abbrev grid1 : Pipeline.Grid := .none

abbrev stage1_0 : Fin 1 → Memref sig .tc .vmem S3136x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S3136x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg_c" => some ((-200 / 2601 : ℝ) : EReal)
  | _ => none
-- ==== ReferenceIdeal.lean ====
abbrev S2x2x200x2 : Shape := ⟨4, ![2, 2, 200, 2]⟩
abbrev S2x2x4x224x224 : Shape := ⟨5, ![2, 2, 4, 224, 224]⟩
abbrev S2x2x1x224x224 : Shape := ⟨5, ![2, 2, 1, 224, 224]⟩
abbrev S2x2x224x224 : Shape := ⟨4, ![2, 2, 224, 224]⟩
abbrev S_ : Shape := ⟨0, ![]⟩
abbrev S255 : Shape := ⟨1, ![255]⟩
abbrev S1 : Shape := ⟨1, ![1]⟩
abbrev S256 : Shape := ⟨1, ![256]⟩
abbrev S4x28x8x28x8 : Shape := ⟨5, ![4, 28, 8, 28, 8]⟩
abbrev S4x28x28x8x8 : Shape := ⟨5, ![4, 28, 28, 8, 8]⟩
abbrev S4x784x64 : Shape := ⟨3, ![4, 784, 64]⟩
abbrev S4x784x64x1 : Shape := ⟨4, ![4, 784, 64, 1]⟩
abbrev S1x1x1x256 : Shape := ⟨4, ![1, 1, 1, 256]⟩
abbrev S4x784x64x256 : Shape := ⟨4, ![4, 784, 64, 256]⟩
abbrev S4x784x256 : Shape := ⟨3, ![4, 784, 256]⟩
abbrev S4x784 : Shape := ⟨2, ![4, 784]⟩
abbrev S4x784x1 : Shape := ⟨3, ![4, 784, 1]⟩
abbrev S2x2x1x28x28 : Shape := ⟨5, ![2, 2, 1, 28, 28]⟩

abbrev nBuf : Space → Nat
  | .hbm => 89
  | .vmem => 0
  | .smem => 0
  | _ => 0

abbrev bufTy : (tb : Table) → Fin (tcTables nBuf tb) → BufTy
  | .hbm, ⟨0, _⟩ => ⟨S2x2x200x2, .f32⟩
  | .hbm, ⟨1, _⟩ => ⟨S2x2x4x224x224, .f32⟩
  | .hbm, ⟨2, _⟩ => ⟨S2x2x1x224x224, .f32⟩
  | .hbm, ⟨3, _⟩ => ⟨S2x2x224x224, .f32⟩
  | .hbm, ⟨4, _⟩ => ⟨S2x2x1x224x224, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S255, .f32⟩
  | .hbm, ⟨13, _⟩ => ⟨S_, .f32⟩
  | .hbm, ⟨14, _⟩ => ⟨S255, .f32⟩
  | .hbm, ⟨15, _⟩ => ⟨S255, .f32⟩
  | .hbm, ⟨16, _⟩ => ⟨S1, .f32⟩
  | .hbm, ⟨17, _⟩ => ⟨S_, .f32⟩
  | .hbm, ⟨18, _⟩ => ⟨S255, .f32⟩
  | .hbm, ⟨19, _⟩ => ⟨S255, .f32⟩
  | .hbm, ⟨20, _⟩ => ⟨S255, .f32⟩
  | .hbm, ⟨21, _⟩ => ⟨S255, .f32⟩
  | .hbm, ⟨22, _⟩ => ⟨S1, .f32⟩
  | .hbm, ⟨23, _⟩ => ⟨S255, .f32⟩
  | .hbm, ⟨24, _⟩ => ⟨S255, .f32⟩
  | .hbm, ⟨25, _⟩ => ⟨S255, .f32⟩
  | .hbm, ⟨26, _⟩ => ⟨S1, .f32⟩
  | .hbm, ⟨27, _⟩ => ⟨S256, .f32⟩
  | .hbm, ⟨28, _⟩ => ⟨S4x28x8x28x8, .f32⟩
  | .hbm, ⟨29, _⟩ => ⟨S4x28x28x8x8, .f32⟩
  | .hbm, ⟨30, _⟩ => ⟨S4x784x64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x784x64x1, .f32⟩
  | .hbm, ⟨35, _⟩ => ⟨S1x1x1x256, .f32⟩
  | .hbm, ⟨36, _⟩ => ⟨S4x784x64x256, .f32⟩
  | .hbm, ⟨37, _⟩ => ⟨S4x784x64x256, .f32⟩
  | .hbm, ⟨38, _⟩ => ⟨S4x784x64x256, .f32⟩
  | .hbm, ⟨39, _⟩ => ⟨S4x784x64x256, .f32⟩
  | .hbm, ⟨40, _⟩ => ⟨S4x784x64x256, .f32⟩
  | .hbm, ⟨41, _⟩ => ⟨S4x784x64x256, .f32⟩
  | .hbm, ⟨42, _⟩ => ⟨S_, .f32⟩
  | .hbm, ⟨43, _⟩ => ⟨S4x784x64x256, .f32⟩
  | .hbm, ⟨44, _⟩ => ⟨S4x784x64x256, .f32⟩
  | .hbm, ⟨45, _⟩ => ⟨S4x784x64x256, .f32⟩
  | .hbm, ⟨46, _⟩ => ⟨S256, .i32⟩
  | .hbm, ⟨47, _⟩ => ⟨S_, .f32⟩
  | .hbm, ⟨48, _⟩ => ⟨S4x784x64, .f32⟩
  | .hbm, ⟨49, _⟩ => ⟨S4x784x64, .f32⟩
  | .hbm, ⟨50, _⟩ => ⟨S4x784x64, .i32⟩
  | .hbm, ⟨51, _⟩ => ⟨S4x784x64x1, .i32⟩
  | .hbm, ⟨52, _⟩ => ⟨S1x1x1x256, .i32⟩
  | .hbm, ⟨53, _⟩ => ⟨S4x784x64x256, .i32⟩
  | .hbm, ⟨54, _⟩ => ⟨S4x784x64x256, .i32⟩
  | .hbm, ⟨55, _⟩ => ⟨S4x784x64x256, .i32⟩
  | .hbm, ⟨56, _⟩ => ⟨S_, .i32⟩
  | .hbm, ⟨57, _⟩ => ⟨S4x784x64x256, .i32⟩
  | .hbm, ⟨58, _⟩ => ⟨S4x784x64x256, .i1⟩
  | .hbm, ⟨59, _⟩ => ⟨S_, .i32⟩
  | .hbm, ⟨60, _⟩ => ⟨S4x784x64x256, .i32⟩
  | .hbm, ⟨61, _⟩ => ⟨S4x784x64x256, .i1⟩
  | .hbm, ⟨62, _⟩ => ⟨S4x784x64x256, .i1⟩
  | .hbm, ⟨63, _⟩ => ⟨S_, .f32⟩
  | .hbm, ⟨64, _⟩ => ⟨S_, .f32⟩
  | .hbm, ⟨65, _⟩ => ⟨S4x784x64x256, .f32⟩
  | .hbm, ⟨66, _⟩ => ⟨S4x784x64x256, .f32⟩
  | .hbm, ⟨67, _⟩ => ⟨S_, .f32⟩
  | .hbm, ⟨68, _⟩ => ⟨S4x784x256, .f32⟩
  | .hbm, ⟨69, _⟩ => ⟨S_, .f32⟩
  | .hbm, ⟨70, _⟩ => ⟨S4x784x256, .f32⟩
  | .hbm, ⟨71, _⟩ => ⟨S4x784x256, .f32⟩
  | .hbm, ⟨72, _⟩ => ⟨S_, .f32⟩
  | .hbm, ⟨73, _⟩ => ⟨S4x784, .f32⟩
  | .hbm, ⟨74, _⟩ => ⟨S4x784x1, .f32⟩
  | .hbm, ⟨75, _⟩ => ⟨S_, .f32⟩
  | .hbm, ⟨76, _⟩ => ⟨S4x784x1, .f32⟩
  | .hbm, ⟨77, _⟩ => ⟨S4x784x1, .f32⟩
  | .hbm, ⟨78, _⟩ => ⟨S4x784x256, .f32⟩
  | .hbm, ⟨79, _⟩ => ⟨S4x784x256, .f32⟩
  | .hbm, ⟨80, _⟩ => ⟨S_, .f32⟩
  | .hbm, ⟨81, _⟩ => ⟨S4x784x256, .f32⟩
  | .hbm, ⟨82, _⟩ => ⟨S4x784x256, .f32⟩
  | .hbm, ⟨83, _⟩ => ⟨S4x784x256, .f32⟩
  | .hbm, ⟨84, _⟩ => ⟨S4x784x256, .f32⟩
  | .hbm, ⟨85, _⟩ => ⟨S_, .f32⟩
  | .hbm, ⟨86, _⟩ => ⟨S4x784, .f32⟩
  | .hbm, ⟨87, _⟩ => ⟨S4x784, .f32⟩
  | .hbm, ⟨88, _⟩ => ⟨S2x2x1x28x28, .f32⟩
  | _, _ => ⟨S2x2x200x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_cst_2 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_3 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_cst_9 : Ref sig .tc := ⟨.hbm, 72, rfl⟩
abbrev main_v37 : Ref sig .tc := ⟨.hbm, 73, rfl⟩
abbrev main_v38 : Ref sig .tc := ⟨.hbm, 74, rfl⟩
abbrev main_cst_10 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_11 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩

abbrev nD : Nat := 1
abbrev τ : Topo := Topo.v7x

variable {F : FTy → Type} [FloatOps F]
-- ==== Proof.Tile.lean ====
/-
  The histogram kernel of one vector subcore, written as a program over its structure: the printed function IS this
  program (`tile_eq`). A row of a strip is eight pixels per patch, each gathered from its column and spread over sixteen
  bins by sixteen scatter-adds; a patch's histogram is read out, and cleared, sixteen bins at a time.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.Kernel
public import proofs.«01_k».proof.Proof.Gen.KernelIdeal
public import proofs.«01_k».proof.Proof.Gen.Pre_pixel_bins

@[expose] public section

noncomputable section

namespace Cert.Proof.Hist

open Cert.KernelIdeal Cert.KernelIdeal.Gen
open Idealize.ShloMosaic Idealize.SL.Sem

variable {F : FTy → Type} [FloatOps F] [Named F]

/-- The effects of the vector subcore at grid coordinates `i`. -/
abbrev Eff (F : FTy → Type) [FloatOps F] [Named F] (i : grid0.Coords) : Type → Type _ :=
  TpuEff nD τ sig (Elt F) Λ₀ (.scVector ((i 0).castLE hcore0) ((i 1).castLE hsub0))

/-- Bits of the sixteen distances from a pixel's own bin, each with the place of its bin in the lane's segment. -/
def taps : List (BitVec 32 × BitVec 32) :=
  [(0x41000000#32, 8#32), (0x40E00000#32, 9#32), (0x40C00000#32, 10#32), (0x40A00000#32, 11#32),
   (0x40800000#32, 12#32), (0x40400000#32, 13#32), (0x40000000#32, 14#32), (0x3F800000#32, 15#32),
   (0x00000000#32, 16#32), (0xBF800000#32, 17#32), (0xC0000000#32, 18#32), (0xC0400000#32, 19#32),
   (0xC0800000#32, 20#32), (0xC0A00000#32, 21#32), (0xC0C00000#32, 22#32), (0xC0E00000#32, 23#32)]

/-- The weight at distance `d` of a pixel whose position inside its bin is `frac`. -/
def bump (frac : FVec F S16 .f32) (d : F .f32) : FVec F S16 .f32 :=
  exp (mulf (mulf (addf frac (broadcast S16 d)) (addf frac (broadcast S16 d))) (broadcast S16 (Named.named κ "neg_c" 0xBD9D7A57#32)))

/-- One scatter-add into the histogram, behind the check of its indices. -/
def scat (i : grid0.Coords) (hist : Memref sig .scVector .vmem S4608 .f32) (w : IVec S16 32) (v : FVec F S16 .f32) :
    Prog (Eff F i) PUnit := do
  have hw : k0_chk2 w := (← Prog.lift (TpuEff.assume (k0_chk2 w) (k0_chk2.dec w))).down
  SparseCore.vectorStoreIdx hist ![w] v (fun _ => 1#1) true (k0_idx2_inb w hw) (View.stores_vmem_bits_univ h_S4608 rfl)

/-- The scatter-adds of one pixel. -/
def spread (i : grid0.Coords) (hist : Memref sig .scVector .vmem S4608 .f32) (frac : FVec F S16 .f32) (base : IVec S16 32) :
    List (BitVec 32 × BitVec 32) → Prog (Eff F i) PUnit
  | [] => pure ⟨⟩
  | t :: l => do
    scat i hist (addi base (broadcast S16 t.2)) (bump frac (Scalar.ofBits .f32 t.1))
    spread i hist frac base l

/-- A pixel's position on the bins' axis. -/
def pos (x : FVec F S16 .f32) : FVec F S16 .f32 := mulf x (broadcast S16 (Scalar.ofBits .f32 0x437F0000#32))

/-- The pixels of one column of sixteen patches. -/
def pixel (i : grid0.Coords) (strip : Memref sig .scVector .vmem S8x112 .f32) (hist : Memref sig .scVector .vmem S4608 .f32)
    (lane r c : IVec S16 32) (h : ∀ a x, ((![r, c] : Fin 2 → IVec S16 32) a x).toNat < S8x112.size a) : Prog (Eff F i) PUnit := do
  let x : Vec F S16 .f32 ← SparseCore.vectorLoadIdx strip ![r, c] h (View.loads_vmem h_S8x112)
  spread i hist (subf (pos x) (sitofp .f32 (fptosi 32 (pos x)))) (addi lane (fptosi 32 (pos x))) taps

/-- One row. -/
def row (i : grid0.Coords) (strip : Memref sig .scVector .vmem S8x112 .f32) (hist : Memref sig .scVector .vmem S4608 .f32)
    (lane c0 c1 c2 c3 c4 c5 c6 c7 r : IVec S16 32) : Prog (Eff F i) PUnit := do
  have hw : k0_chk1 c0 c1 c2 c3 c4 c5 c6 c7 r := (← Prog.lift (TpuEff.assume (k0_chk1 c0 c1 c2 c3 c4 c5 c6 c7 r) (k0_chk1.dec c0 c1 c2 c3 c4 c5 c6 c7 r))).down
  pixel i strip hist lane r c0 hw.1
  pixel i strip hist lane r c1 hw.2.1
  pixel i strip hist lane r c2 hw.2.2.1
  pixel i strip hist lane r c3 hw.2.2.2.1
  pixel i strip hist lane r c4 hw.2.2.2.2.1
  pixel i strip hist lane r c5 hw.2.2.2.2.2.1
  pixel i strip hist lane r c6 hw.2.2.2.2.2.2.1
  pixel i strip hist lane r c7 hw.2.2.2.2.2.2.2

/-- The lanes' numbers. -/
def lanes : IVec S16 32 := iota .scVector S16 32 [0] iota_S16_d0_w32_scVector

/-- Where each lane's segment of the histogram starts. -/
def segs : IVec S16 32 := muli lanes (broadcast S16 288#32)

/-- The column of every patch's pixel `n` of a row, the last column for the lanes that have no patch. -/
def col (n : BitVec 32) : IVec S16 32 := minsi (addi (muli lanes (broadcast S16 8#32)) (broadcast S16 n)) (broadcast S16 111#32)

/-- Sixteen zeros. -/
def zeros : FVec F S16 .f32 := broadcast S16 (Scalar.ofBits .f32 0x00000000#32)

/-- The histogram cleared. -/
def clear (i : grid0.Coords) (hist : Memref sig .scVector .vmem S4608 .f32) (t : Fin k0_t1_loop.trips) : Prog (Eff F i) PUnit := do
  let _x : Vec F S16 .f32 ← Prog.lift (.load hist (Rect.unit (s := S4608) (k0_off1 t) S16.size (k0_off1_inb t)).toLoadRect (View.loadsAt_vmem h_S16))
  Prog.lift (.store hist (Rect.unit (s := S4608) (k0_off1 t) S16.size (k0_off1_inb t)) zeros Finset.univ (View.stores_vmem_bits_univ h_S16 rfl) (.inl rfl))
  pure ⟨⟩

/-- Where bins `16 q` to `16 q + 15` of patch `p` of strip `t` stand in the stage. -/
def stageOff (t : Fin k0_t2_loop.trips) (p : Fin k0_t4_loop.trips) (q : Fin 16) : Fin 3 → Nat :=
  ![(Scf.iv (0#32) (1#32) t).toNat, (Scf.iv (0#32) (1#32) p).toNat, 16 * q.val]

theorem stageOff_eq (t : Fin k0_t2_loop.trips) (p : Fin k0_t4_loop.trips) (q : Fin 16) : stageOff t p q = ![t.val, p.val, 16 * q.val] := by
  have h := k0_off4_eq t p
  have h0 := congrFun h 0
  have h1 := congrFun h 1
  unfold stageOff
  exact congrArg₂ (fun a b => ![a, b, 16 * q.val]) h0 h1

theorem stageOff_inb (t : Fin k0_t2_loop.trips) (p : Fin k0_t4_loop.trips) (q : Fin 16) (a : Fin 3) :
    stageOff t p q a + S1x1x16.size a ≤ S7x14x256.size a := by
  have ht := t.isLt.trans_le k0_t2_abs.2.1
  have hp := p.isLt.trans_le k0_t4_abs.2.1
  rw [stageOff_eq]
  fin_cases a <;> simp <;> omega

/-- Sixteen bins of a patch moved to the stage, and cleared. -/
def take (i : grid0.Coords) (stage : Memref sig .scVector .vmem S7x14x256 .f32) (hist : Memref sig .scVector .vmem S4608 .f32)
    (t : Fin k0_t2_loop.trips) (p : Fin k0_t4_loop.trips) (q : Fin 16) : Prog (Eff F i) PUnit := do
  let x : Vec F S16 .f32 ← Prog.lift (.load hist (Rect.unit (s := S4608) (k0_off3 p (BitVec.ofNat 32 (16 * q.val))) S16.size (k0_off3_inb p q)).toLoadRect (View.loadsAt_vmem h_S16))
  let _y : Vec F S16 .f32 ← Prog.lift (.load hist (Rect.unit (s := S4608) (k0_off3 p (BitVec.ofNat 32 (16 * q.val))) S16.size (k0_off3_inb p q)).toLoadRect (View.loadsAt_vmem h_S16))
  Prog.lift (.store hist (Rect.unit (s := S4608) (k0_off3 p (BitVec.ofNat 32 (16 * q.val))) S16.size (k0_off3_inb p q)) zeros Finset.univ (View.stores_vmem_bits_univ h_S16 rfl) (.inl rfl))
  let _z : Vec F S1x1x16 .f32 ← Prog.lift (.load stage (Rect.unit (s := S7x14x256) (stageOff t p q) S1x1x16.size (stageOff_inb t p q)).toLoadRect (View.loadsAt_vmem h_S1x1x16))
  Prog.lift (.store stage (Rect.unit (s := S7x14x256) (stageOff t p q) S1x1x16.size (stageOff_inb t p q)) (shapeCast S1x1x16 x shapeCasts_S16_S1x1x16) Finset.univ (View.stores_vmem_bits_univ h_S1x1x16 rfl) (.inl rfl))

/-- A list of sixteen-bin groups moved to the stage. -/
def takes (i : grid0.Coords) (stage : Memref sig .scVector .vmem S7x14x256 .f32) (hist : Memref sig .scVector .vmem S4608 .f32)
    (t : Fin k0_t2_loop.trips) (p : Fin k0_t4_loop.trips) : List (Fin 16) → Prog (Eff F i) PUnit
  | [] => pure ⟨⟩
  | q :: l => do
    take i stage hist t p q
    takes i stage hist t p l

/-- Strip `t` of the tile, in the strips' array. -/
def stripAt (i : grid0.Coords) (strips : Memref sig .scVector .hbm S224x8x112 .f32) (t : Fin k0_t2_loop.trips) : Memref sig .scVector .hbm S8x112 .f32 :=
  (strips.slice (Rect.unit (s := S224x8x112) (k0_off2 i t) S1x8x112.size (k0_off2_inb i t)) (fun _ => rfl)).squeeze S8x112 squeezes_S1x8x112_S8x112

/-- Row `t` of the stage. -/
def stageAt (stage : Memref sig .scVector .vmem S7x14x256 .f32) (t : Fin k0_t2_loop.trips) : Memref sig .scVector .vmem S14x256 .f32 :=
  (stage.slice (Rect.unit (s := S7x14x256) (k0_off20 t) S1x14x256.size (k0_off20_inb t)) (fun _ => rfl)).squeeze S14x256 squeezes_S1x14x256_S14x256

/-- The fourteen rows of the result that strip `t` of the tile fills. -/
def outAt (i : grid0.Coords) (out : Memref sig .scVector .hbm S3136x256 .f32) (t : Fin k0_t2_loop.trips) : Memref sig .scVector .hbm S14x256 .f32 :=
  out.slice (Rect.unit (s := S3136x256) (k0_off21 i t) S14x256.size (k0_off21_inb i t)) (fun _ => rfl)

/-- One strip: fetched, binned row by row, read out patch by patch, and its fourteen histograms sent off. -/
def strip (i : grid0.Coords) (strips : Memref sig .scVector .hbm S224x8x112 .f32) (out : Memref sig .scVector .hbm S3136x256 .f32)
    (buf : Memref sig .scVector .vmem S8x112 .f32) (hbuf : buf.IsWhole) (stage : Memref sig .scVector .vmem S7x14x256 .f32)
    (hist : Memref sig .scVector .vmem S4608 .f32) (sent fetched : DmaSems sig S_) (t : Fin k0_t2_loop.trips) : Prog (Eff F i) PUnit := do
  Prog.lift (.enqueueDma (stripAt i strips t) (.here buf) (.dma fetched.sem) ((View.wordExact_bits rfl).reshape _ _) hbuf.wordExact ⟨Or.inl rfl, trivial⟩)
  Prog.lift (.waitDma2 fetched.sem (stripAt i strips t) buf ((View.wordExact_bits rfl).reshape _ _) hbuf.wordExact)
  Scf.Loop.for k0_t3_loop k0_t3_ok ⟨⟩ fun r _ =>
    row i buf hist segs (col 0#32) (col 1#32) (col 2#32) (col 3#32) (col 4#32) (col 5#32) (col 6#32) (col 7#32) (broadcast S16 (Scf.iv 0#32 1#32 r))
  Scf.Loop.for k0_t4_loop k0_t4_ok ⟨⟩ fun p _ =>
    takes i stage hist t p [0, 1, 2, 3, 4, 5, 6, 7, 8, 9, 10, 11, 12, 13, 14, 15]
  Prog.lift (.enqueueDma (stageAt stage t) (.here (outAt i out t)) (.dma sent.sem) ((View.wordExact_bits rfl).reshape _ _) (View.wordExact_bits rfl) ⟨Or.inl rfl, trivial⟩)
  pure ⟨⟩

theorem stageRow_inb (t : Fin 7) (a : Fin 3) : (![t.val, 0, 0] : Fin 3 → Nat) a + S1x14x256.size a ≤ S7x14x256.size a := by
  have := t.isLt
  fin_cases a <;> simp <;> omega

/-- The waits for the histograms' transfers. -/
def waits (i : grid0.Coords) (out : Memref sig .scVector .hbm S3136x256 .f32) (stage : Memref sig .scVector .vmem S7x14x256 .f32) (sent : DmaSems sig S_) :
    List (Fin 7) → Prog (Eff F i) PUnit
  | [] => pure ⟨⟩
  | t :: l => do
    Prog.lift (.waitDma2 sent.sem ((stage.slice (Rect.unit (s := S7x14x256) ![t.val, 0, 0] S1x14x256.size (stageRow_inb t)) (fun _ => rfl)).squeeze S14x256 squeezes_S1x14x256_S14x256)
      (out.slice (Rect.unit (s := S3136x256) (k0_off22 i (BitVec.ofNat 32 (14 * t.val))) S14x256.size (k0_off22_inb i t)) (fun _ => rfl))
      ((View.wordExact_bits rfl).reshape _ _) (View.wordExact_bits rfl))
    waits i out stage sent l

/-- The whole task of a vector subcore. -/
def tile (i : grid0.Coords) (strips : Memref sig .scVector .hbm S224x8x112 .f32) (out : Memref sig .scVector .hbm S3136x256 .f32)
    (buf : Memref sig .scVector .vmem S8x112 .f32) (hbuf : buf.IsWhole) (stage : Memref sig .scVector .vmem S7x14x256 .f32)
    (hist : Memref sig .scVector .vmem S4608 .f32) (sent fetched : DmaSems sig S_) : Prog (Eff F i) PUnit := do
  Scf.Loop.for k0_t1_loop k0_t1_ok ⟨⟩ fun t _ => clear i hist t
  Scf.Loop.for k0_t2_loop k0_t2_ok ⟨⟩ fun t _ => strip i strips out buf hbuf stage hist sent fetched t
  waits i out stage sent [0, 1, 2, 3, 4, 5, 6]

set_option maxRecDepth 100000 in
set_option maxHeartbeats 4000000 in
/-- The printed function is the structured program. -/
theorem tile_eq (i : grid0.Coords) (arg2 : Memref sig .scVector .hbm S224x8x112 .f32) (harg2 : arg2.IsWhole) (arg3 : Memref sig .scVector .hbm S3136x256 .f32)
    (harg3 : arg3.IsWhole) (arg4 : Memref sig .scVector .vmem S8x112 .f32) (harg4 : arg4.IsWhole) (arg5 : Memref sig .scVector .vmem S7x14x256 .f32)
    (harg5 : arg5.IsWhole) (arg6 : Memref sig .scVector .vmem S4608 .f32) (harg6 : arg6.IsWhole) (arg7 : DmaSems sig S_) (v130_r0 : DmaSems sig S_) :
    cc0_k (F := F) i arg2 harg2 arg3 harg3 arg4 harg4 arg5 harg5 arg6 harg6 arg7 v130_r0 = tile i arg2 arg3 arg4 harg4 arg5 arg6 arg7 v130_r0 := by
  have h : cc0_k (F := F) i arg2 harg2 arg3 harg3 arg4 harg4 arg5 harg5 arg6 harg6 arg7 v130_r0
      = ((do
          Scf.Loop.for k0_t1_loop k0_t1_ok ⟨⟩ fun t _ => clear i arg6 t
          Scf.Loop.for k0_t2_loop k0_t2_ok ⟨⟩ fun t _ => strip i arg2 arg3 arg4 harg4 arg5 arg6 arg7 v130_r0 t
          waits i arg3 arg5 arg7 [0]
          pure ⟨Scalar.muli (Scalar.addi (Scalar.muli (BitVec.ofNat 32 (i 1).val) 2#32) (BitVec.ofNat 32 (i 0).val)) 7#32, 14#32⟩
          : Prog (Eff F i) (Σ' (_ : BitVec 32), BitVec 32)) >>= fun _ => waits i arg3 arg5 arg7 [1, 2, 3, 4, 5, 6]) >>= fun _ => pure ⟨⟩ := by
    rfl
  rw [h]
  simp only [bind_assoc]
  rfl

end Cert.Proof.Hist

end
-- ==== Proof.Bins.lean ====
/-
  What the scatter-adds of the kernel leave in the histogram, as functions: the histogram's contents are laid out lane
  by lane (`lay`), one scatter-add changes one place of every lane's segment (`scatter_lay`), a pixel changes sixteen.
-/
module

public import proofs.«01_k».proof.Proof.Tile

@[expose] public section

noncomputable section

namespace Cert.Proof.Hist

open Cert.KernelIdeal Cert.KernelIdeal.Gen
open Idealize.ShloMosaic

variable {F : FTy → Type}

/-- Lane `l` of a vector of sixteen. -/
abbrev lane (l : Fin 16) : S16.Idx := Shape.ofLane l

/-- The lane of a histogram's place. -/
def seg (x : S4608.Idx) : Fin 16 := ⟨(x 0).val / 288, by have : (x 0).val < 4608 := (x 0).isLt; omega⟩

/-- Histogram contents, from what every lane's segment holds. -/
def lay (A : Fin 16 → ℕ → F .f32) : S4608.Idx → F .f32 := fun x => A (seg x) ((x 0).val % 288)

theorem lane_eq (x : S16.Idx) : x = lane (x 0) := by
  funext a
  obtain rfl : a = 0 := Subsingleton.elim _ _
  rfl

/-- Every histogram's contents are some segments' contents. -/
theorem exists_lay (f : S4608.Idx → F .f32) : ∃ A, f = lay A := by
  refine ⟨fun l k => f (fun a => ⟨(288 * l.val + k % 288), by
    obtain rfl : a = 0 := Subsingleton.elim _ _
    have := l.isLt; show 288 * l.val + k % 288 < 4608; omega⟩), ?_⟩
  funext x
  refine congrArg f (funext fun a => ?_)
  obtain rfl : a = 0 := Subsingleton.elim _ _
  refine Fin.ext ?_
  show (x 0).val = 288 * ((x 0).val / 288) + (x 0).val % 288 % 288
  omega

variable [FloatOps F]

section Scatter

variable (w : IVec S16 32) (v : FVec F S16 .f32) (n : Fin 16 → ℕ)
  (hw : ∀ l : Fin 16, (w (lane l)).toNat = 288 * l.val + n l) (hn : ∀ l, n l < 288)
  (h : ∀ a x, ((![w] : Fin 1 → IVec S16 32) a x).toNat < S4608.size a)

/-- What one lane's add does. -/
def addAt (g : S4608.Idx → F .f32) (l : Fin 16) : S4608.Idx → F .f32 :=
  fun j => if (∀ a, (j a).val = (idxAt (s := S4608) ![w] h (lane l) a).val)
    then FloatOps.idxAddf (g (idxAt (s := S4608) ![w] h (lane l))) (v (lane l)) else g j

include hw hn in
theorem addAt_apply (g : S4608.Idx → F .f32) (l : Fin 16) (x : S4608.Idx) :
    addAt w v h g l x = if seg x = l ∧ (x 0).val % 288 = n (seg x) then FloatOps.idxAddf (g x) (v (lane (seg x))) else g x := by
  have hx : (∀ a, (x a).val = (idxAt (s := S4608) ![w] h (lane l) a).val) ↔ seg x = l ∧ (x 0).val % 288 = n (seg x) := by
    have e : (idxAt (s := S4608) ![w] h (lane l) 0).val = 288 * l.val + n l := hw l
    have := hn l
    constructor
    · intro ha
      have h0 := ha 0
      rw [e] at h0
      have hs : seg x = l := Fin.ext (by show (x 0).val / 288 = l.val; omega)
      exact ⟨hs, by rw [hs]; omega⟩
    · rintro ⟨rfl, h1⟩ a
      obtain rfl : a = 0 := Subsingleton.elim _ _
      rw [e]
      show (x 0).val = 288 * ((x 0).val / 288) + n (seg x)
      omega
  unfold addAt
  by_cases hc : seg x = l ∧ (x 0).val % 288 = n (seg x)
  · rw [if_pos (hx.mpr hc), if_pos hc]
    have : idxAt (s := S4608) ![w] h (lane l) = x := funext fun a => Fin.ext ((hx.mpr hc a).symm)
    rw [this, hc.1]
  · rw [if_neg (fun hh => hc (hx.mp hh)), if_neg hc]

include hw hn in
theorem foldl_addAt (x : S4608.Idx) : ∀ (L : List (Fin 16)) (_ : L.Nodup) (g : S4608.Idx → F .f32),
    L.foldl (addAt w v h) g x
      = if seg x ∈ L ∧ (x 0).val % 288 = n (seg x) then FloatOps.idxAddf (g x) (v (lane (seg x))) else g x
  | [], _, g => by simp
  | l :: L, hL, g => by
    have hl := (List.nodup_cons.mp hL).1
    rw [List.foldl_cons, foldl_addAt x L (List.nodup_cons.mp hL).2, addAt_apply w v n hw hn h]
    by_cases hs : seg x = l
    · subst hs
      rw [if_neg (fun hh => hl hh.1)]
      simp
    · simp [hs]

include hw hn in
/-- One scatter-add of a value per lane at place `n l` of lane `l`'s segment. -/
theorem scatter_lay (A : Fin 16 → ℕ → F .f32) :
    storeIdx (F := F) (s := S4608) (e := .f32) (lay A) ![w] v (fun _ => 1#1) true h
      = lay fun l k => if k = n l then FloatOps.idxAddf (A l k) (v (lane l)) else A l k := by
  have e : storeIdx (F := F) (s := S4608) (e := .f32) (lay A) ![w] v (fun _ => 1#1) true h = (List.finRange 16).foldl (addAt w v h) (lay A) := by
    unfold storeIdx
    refine congrArg (fun st : (S4608.Idx → F .f32) → Fin 16 → S4608.Idx → F .f32 => List.foldl st (lay A) (List.finRange 16)) ?_
    funext g l j
    dsimp only
    refine (congrFun (if_pos rfl) j).trans ?_
    rw [if_pos rfl, Elt.idxAdd_f32]
    unfold addAt
    by_cases hc : ∀ a : Fin 1, (j a).val = (idxAt (s := S4608) ![w] h (lane l) a).val
    · exact (if_pos hc).trans (if_pos hc).symm
    · exact (if_neg hc).trans (if_neg hc).symm
  rw [e]
  funext x
  rw [foldl_addAt w v n hw hn h x _ (List.nodup_finRange 16)]
  simp [lay]

end Scatter

variable [Named F]

/-- A pixel's position on the bins' axis. -/
def place (x : F .f32) : F .f32 := FloatOps.mulf x (FloatOps.ofBits .f32 0x437F0000#32)

/-- A pixel's own bin. -/
def binOf (x : F .f32) : BitVec 32 := FloatOps.fptosi 32 (place x)

/-- A pixel's position inside its bin. -/
def fracOf (x : F .f32) : F .f32 := FloatOps.subf (place x) (FloatOps.sitofp .f32 (binOf x))

/-- The weight a pixel puts on the bin at distance `d` from its own. -/
def weight (x : F .f32) (d : BitVec 32) : F .f32 :=
  FloatOps.exp (FloatOps.mulf (FloatOps.mulf (FloatOps.addf (fracOf x) (FloatOps.ofBits .f32 d)) (FloatOps.addf (fracOf x) (FloatOps.ofBits .f32 d)))
    (Named.named κ "neg_c" 0xBD9D7A57#32))

/-- What place `k` of a segment holds once a pixel `x` has put its weight for the tap `t`. -/
def tapF (x : F .f32) (k : ℕ) (a : F .f32) (t : BitVec 32 × BitVec 32) : F .f32 :=
  if k = (binOf x).toNat + t.2.toNat then FloatOps.idxAddf a (weight x t.1) else a

/-- A pixel's sixteen weights put. -/
def pixF (x : F .f32) (k : ℕ) (a : F .f32) : F .f32 := taps.foldl (tapF x k) a

/-- A strip's word at row `r` and column `c`. -/
def rd (f : S8x112.Idx → F .f32) (r c : ℕ) : F .f32 :=
  f (fun | 0 => ⟨r % 8, Nat.mod_lt _ (by decide)⟩ | 1 => ⟨c % 112, Nat.mod_lt _ (by decide)⟩)

/-- A row's pixels of patch `l` put. -/
def rowF (f : S8x112.Idx → F .f32) (l : Fin 16) (k r : ℕ) (a : F .f32) : F .f32 :=
  (List.range 8).foldl (fun a c => pixF (rd f r (min (8 * l.val + c) 111)) k a) a

/-- The first `n` rows of patch `l` put. -/
def rowsF (f : S8x112.Idx → F .f32) (l : Fin 16) (k n : ℕ) (a : F .f32) : F .f32 :=
  (List.range n).foldl (fun a r => rowF f l k r a) a

theorem rowsF_succ (f : S8x112.Idx → F .f32) (l : Fin 16) (k n : ℕ) (a : F .f32) :
    rowsF f l k (n + 1) a = rowF f l k n (rowsF f l k n a) := by
  unfold rowsF
  rw [List.range_succ, List.foldl_append]; rfl

/-! ## The lanes' words -/

theorem lanes_toNat (l : Fin 16) : (lanes (lane l)).toNat = l.val := by
  revert l; decide

theorem segs_toNat (l : Fin 16) : (segs (lane l)).toNat = 288 * l.val := by
  revert l; decide

theorem col_toNat (n : Fin 8) (l : Fin 16) : (col (BitVec.ofNat 32 n.val) (lane l)).toNat = min (8 * l.val + n.val) 111 := by
  revert l n; decide

end Cert.Proof.Hist

end
-- ==== Proof.Steps.lean ====
/-
  The steps of the histogram kernel as rules: what a scatter-add, a pixel, a row do to the histogram held at its
  segments' contents.
-/
module

public import proofs.«01_k».proof.Proof.Bins
public import Idealize.ShloMosaic.Lib.Pipeline.Kit

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) := (Emb.inl : Emb (UR sig nD τ) (UR sig nD τ × Counters)).trans embR

/-! ## The memrefs of a task -/

abbrev inV : Memref sig .scVector .hbm S224x8x112 .f32 := Memref.whole main_v4_scv
abbrev outV : Memref sig .scVector .hbm S3136x256 .f32 := Memref.whole main_v5_scv
abbrev bufV : Memref sig .scVector .vmem S8x112 .f32 := Memref.whole cc0_scratch0
abbrev stageV : Memref sig .scVector .vmem S7x14x256 .f32 := Memref.whole cc0_scratch1
abbrev histV : Memref sig .scVector .vmem S4608 .f32 := Memref.whole cc0_scratch2

variable (d : Dev nD) (i : grid0.Coords)

abbrev cV (i : grid0.Coords) : Fin τ.nSC := (i 0).castLE hcore0
abbrev jV (i : grid0.Coords) : Fin τ.nSub := (i 1).castLE hsub0

/-- The task's thread. -/
abbrev me : Thread nD τ := V d (cV i) (jV i)

/-- The strip's buffer, the stage and the histogram of the task, held whole. -/
abbrev bufPts (f : S8x112.Idx → F .f32) : sProp 𝕄 := (me d i).loc cc0_scratch0 ↦{fullShare} f
abbrev stagePts (f : S7x14x256.Idx → F .f32) : sProp 𝕄 := (me d i).loc cc0_scratch1 ↦{fullShare} f
abbrev histPts (f : S4608.Idx → F .f32) : sProp 𝕄 := (me d i).loc cc0_scratch2 ↦{fullShare} f

theorem hist_whole (f : S4608.Idx → F .f32) :
    (((histV).access (.whole S4608)).loc (me d i) ↦[((histV).access (.whole S4608)).set]{fullShare} f : sProp 𝕄) = histPts d i f := by
  rw [show ((histV).access (.whole S4608)).set = Finset.univ from Memref.set_access_whole (cc0_scratch2 : Ref sig .scVector)]

variable {α : Type} {Q : α → sProp (MT nD τ sig (HIx 1) (Elt F) ℕ UU ℕ)} {k : PUnit → Prog (Eff F i) α}

theorem scat_chk (w : IVec S16 32) (n : Fin 16 → ℕ) (hw : ∀ l : Fin 16, (w (lane l)).toNat = 288 * l.val + n l) (hn : ∀ l, n l < 288) : k0_chk2 w := by
  intro a x
  obtain rfl : a = 0 := Subsingleton.elim _ _
  have := hw (x 0)
  have h2 := hn (x 0)
  have h3 : (x 0).val < 16 := (x 0).isLt
  rw [lane_eq x]
  show (w (lane (x 0))).toNat < 4608
  omega

theorem scat_op (w : IVec S16 32) (v : FVec F S16 .f32) : (scat i histV w v >>= k : Prog (Eff F i) α) = .op (TpuEff.assume (k0_chk2 w) (k0_chk2.dec w)) (fun hw =>
      SparseCore.vectorStoreIdx histV ![w] v (fun _ => 1#1) true (k0_idx2_inb w hw.down) (View.stores_vmem_bits_univ h_S4608 rfl) >>= k) := rfl

/-- One scatter-add. -/
theorem wp_scat (w : IVec S16 32) (v : FVec F S16 .f32) (n : Fin 16 → ℕ)
    (hw : ∀ l : Fin 16, (w (lane l)).toNat = 288 * l.val + n l) (hn : ∀ l, n l < 288) (A : Fin 16 → ℕ → F .f32) :
    histPts d i (lay A) ⊢ iprop((histPts d i (lay fun l k => if k = n l then FloatOps.idxAddf (A l k) (v (lane l)) else A l k)
        -∗ wp frame (wpE (defs₀ (F := F)) 𝒱₀ (me d i) none) Set.univ (k ⟨⟩) Q)
      -∗ wp frame (wpE (defs₀ (F := F)) 𝒱₀ (me d i) none) Set.univ (scat i histV w v >>= k) Q) := by
  have hc := scat_chk w n hw hn
  iintro H Hk
  ihave H := (Entails.of_eq (hist_whole d i _).symm) $$ H
  rw [scat_op, wp_assume_of _ _ _ _ hc]
  iapply (SparseCore.wp_vectorStoreIdx 𝒱₀ (me d i) none Set.univ (base := histV)) $$ H
  iintro H
  iapply Hk
  ihave H := (Entails.of_eq (hist_whole d i _)) $$ H
  rw [← scatter_lay w v n hw hn (k0_idx2_inb w hc) A]
  have hr : ((histV).access (.whole S4608)).read (Elt F) (lay A) = lay A := Memref.read_access_whole (Elt F) (cc0_scratch2 : Ref sig .scVector) (lay A)
  have hv : ((histV).access (.whole S4608)).write (Elt F) (lay A) (storeIdx (F := F) (s := S4608) (e := .f32) (lay A) ![w] v (fun _ => 1#1) true (k0_idx2_inb w hc)) Finset.univ
      = storeIdx (F := F) (s := S4608) (e := .f32) (lay A) ![w] v (fun _ => 1#1) true (k0_idx2_inb w hc) :=
    Memref.write_access_whole_univ (Elt F) (cc0_scratch2 : Ref sig .scVector) (lay A) _
  rw [hr, hv]
  iexact H

theorem tap_place (X : FVec F S16 .f32) (hX : ∀ l : Fin 16, (binOf (X (lane l))).toNat < 256) (o : BitVec 32) (ho : o.toNat < 32) (l : Fin 16) :
    ((addi (addi segs (fptosi 32 (pos X))) (broadcast S16 o)) (lane l)).toNat = 288 * l.val + ((binOf (X (lane l))).toNat + o.toNat) := by
  have h1 := segs_toNat l
  have h2 := hX l
  have h3 := l.isLt
  show ((segs (lane l) + binOf (X (lane l))) + o).toNat = _
  rw [BitVec.toNat_add, BitVec.toNat_add, h1]
  omega

theorem taps_lt : ∀ t ∈ taps, t.2.toNat < 32 := by decide

/-- A pixel's scatter-adds, for the taps of `L`. -/
theorem wp_spread (X : FVec F S16 .f32) (hX : ∀ l : Fin 16, (binOf (X (lane l))).toNat < 256) :
    ∀ (L : List (BitVec 32 × BitVec 32)) (_ : ∀ t ∈ L, t.2.toNat < 32) (A : Fin 16 → ℕ → F .f32),
    histPts d i (lay A) ⊢ iprop((histPts d i (lay fun l k => L.foldl (tapF (X (lane l)) k) (A l k))
        -∗ wp frame (wpE (defs₀ (F := F)) 𝒱₀ (me d i) none) Set.univ (k ⟨⟩) Q)
      -∗ wp frame (wpE (defs₀ (F := F)) 𝒱₀ (me d i) none) Set.univ
          (spread i histV (subf (pos X) (sitofp .f32 (fptosi 32 (pos X)))) (addi segs (fptosi 32 (pos X))) L >>= k) Q)
  | [], _, A => by
    iintro H Hk
    iapply Hk
    iexact H
  | t :: L, hL, A => by
    iintro H Hk
    unfold spread
    rw [bind_assoc]
    have ht := hL t List.mem_cons_self
    iapply (wp_scat d i (addi (addi segs (fptosi 32 (pos X))) (broadcast S16 t.2)) (bump (subf (pos X) (sitofp .f32 (fptosi 32 (pos X)))) (Scalar.ofBits .f32 t.1))
      (fun l => (binOf (X (lane l))).toNat + t.2.toNat) (tap_place X hX t.2 ht) (fun l => by have := hX l; omega) A) $$ H
    iintro H
    iapply (wp_spread X hX L (fun t ht => hL t (List.mem_cons_of_mem _ ht)) _) $$ H
    iintro H
    iapply Hk
    iexact H

theorem read_cell (f : S8x112.Idx → F .f32) (r : Fin 8) (n : Fin 8) (rv : IVec S16 32) (hr : rv = broadcast S16 (BitVec.ofNat 32 r.val))
    (h : ∀ a x, ((![rv, col (BitVec.ofNat 32 n.val)] : Fin 2 → IVec S16 32) a x).toNat < S8x112.size a) (l : Fin 16) :
    loadIdx (F := F) (s := S8x112) (e := .f32) f ![rv, col (BitVec.ofNat 32 n.val)] h (lane l) = rd f r.val (min (8 * l.val + n.val) 111) := by
  subst hr
  have hc := col_toNat n l
  have hr := r.isLt
  refine congrArg f (funext fun a => ?_)
  match a with
  | 0 =>
    refine Fin.ext ?_
    show (BitVec.ofNat 32 r.val).toNat = r.val % 8
    rw [BitVec.toNat_ofNat]; omega
  | 1 =>
    refine Fin.ext ?_
    show (col (BitVec.ofNat 32 n.val) (lane l)).toNat = min (8 * l.val + n.val) 111 % 112
    rw [hc]; omega

/-- The pixels a strip holds have bins inside the histogram. -/
def InBins (f : S8x112.Idx → F .f32) : Prop := ∀ x, (binOf (f x)).toNat < 256

theorem buf_whole (f : S8x112.Idx → F .f32) :
    (((bufV).access (.whole S8x112)).loc (me d i) ↦[((bufV).access (.whole S8x112)).set]{fullShare} f : sProp 𝕄) = bufPts d i f := by
  rw [show ((bufV).access (.whole S8x112)).set = Finset.univ from Memref.set_access_whole (cc0_scratch0 : Ref sig .scVector)]

/-- The pixels of one column of every patch. -/
theorem wp_pixel (f : S8x112.Idx → F .f32) (hf : InBins f) (r n : Fin 8) (rv c : IVec S16 32) (hr : rv = broadcast S16 (BitVec.ofNat 32 r.val))
    (hc : c = col (BitVec.ofNat 32 n.val)) (h : ∀ a x, ((![rv, c] : Fin 2 → IVec S16 32) a x).toNat < S8x112.size a) (A : Fin 16 → ℕ → F .f32) :
    iprop(bufPts d i f ∗ histPts d i (lay A))
      ⊢ iprop((iprop(bufPts d i f ∗ histPts d i (lay fun l k => pixF (rd f r.val (min (8 * l.val + n.val) 111)) k (A l k)))
        -∗ wp frame (wpE (defs₀ (F := F)) 𝒱₀ (me d i) none) Set.univ (k ⟨⟩) Q)
      -∗ wp frame (wpE (defs₀ (F := F)) 𝒱₀ (me d i) none) Set.univ (pixel i bufV histV segs rv c h >>= k) Q) := by
  subst hc
  iintro ⟨Hb, H⟩ Hk
  unfold pixel
  rw [bind_assoc]
  ihave Hb := (Entails.of_eq (buf_whole d i f).symm) $$ Hb
  iapply (SparseCore.wp_vectorLoadIdx 𝒱₀ (me d i) none Set.univ (base := bufV) subset_rfl) $$ Hb
  iintro Hb
  have hb : ((bufV).access (.whole S8x112)).read (Elt F) f = f := Memref.read_access_whole (Elt F) (cc0_scratch0 : Ref sig .scVector) f
  rw [hb]
  have hX : ∀ l : Fin 16, (loadIdx (F := F) (s := S8x112) (e := .f32) f ![rv, col (BitVec.ofNat 32 n.val)] h : FVec F S16 .f32) (lane l)
      = rd f r.val (min (8 * l.val + n.val) 111) := read_cell f r n rv hr h
  iapply (wp_spread d i (loadIdx (F := F) (s := S8x112) (e := .f32) f ![rv, col (BitVec.ofNat 32 n.val)] h)
    (fun l => by rw [hX]; exact hf _) taps taps_lt A) $$ H
  iintro H
  iapply Hk
  isplitl [Hb]
  · ihave Hb := (Entails.of_eq (buf_whole d i f)) $$ Hb
    iexact Hb
  · simp only [hX]
    iexact H

theorem row_chk (r : Fin 8) (n : Fin 8) :
    ∀ a x, ((![broadcast S16 (BitVec.ofNat 32 r.val), col (BitVec.ofNat 32 n.val)] : Fin 2 → IVec S16 32) a x).toNat < S8x112.size a := by
  intro a x
  rw [lane_eq x]
  have hc := col_toNat n (x 0)
  have hr := r.isLt
  match a with
  | 0 =>
    show (BitVec.ofNat 32 r.val).toNat < 8
    rw [BitVec.toNat_ofNat]; omega
  | 1 =>
    show (col (BitVec.ofNat 32 n.val) (lane (x 0))).toNat < 112
    rw [hc]; omega

/-- One row of a strip. -/
theorem wp_row (f : S8x112.Idx → F .f32) (hf : InBins f) (r : Fin 8) (A : Fin 16 → ℕ → F .f32) :
    iprop(bufPts d i f ∗ histPts d i (lay A))
      ⊢ iprop((iprop(bufPts d i f ∗ histPts d i (lay fun l k => rowF f l k r.val (A l k)))
        -∗ wp frame (wpE (defs₀ (F := F)) 𝒱₀ (me d i) none) Set.univ (k ⟨⟩) Q)
      -∗ wp frame (wpE (defs₀ (F := F)) 𝒱₀ (me d i) none) Set.univ
          (row i bufV histV segs (col 0#32) (col 1#32) (col 2#32) (col 3#32) (col 4#32) (col 5#32) (col 6#32) (col 7#32) (broadcast S16 (BitVec.ofNat 32 r.val)) >>= k) Q) := by
  have hw : k0_chk1 (col 0#32) (col 1#32) (col 2#32) (col 3#32) (col 4#32) (col 5#32) (col 6#32) (col 7#32) (broadcast S16 (BitVec.ofNat 32 r.val)) :=
    ⟨row_chk r 0, row_chk r 1, row_chk r 2, row_chk r 3, row_chk r 4, row_chk r 5, row_chk r 6, row_chk r 7⟩
  have e : (row i bufV histV segs (col 0#32) (col 1#32) (col 2#32) (col 3#32) (col 4#32) (col 5#32) (col 6#32) (col 7#32) (broadcast S16 (BitVec.ofNat 32 r.val)) >>= k : Prog (Eff F i) α)
      = .op (TpuEff.assume _ (k0_chk1.dec (col 0#32) (col 1#32) (col 2#32) (col 3#32) (col 4#32) (col 5#32) (col 6#32) (col 7#32) (broadcast S16 (BitVec.ofNat 32 r.val)))) fun hw =>
        pixel i bufV histV segs (broadcast S16 (BitVec.ofNat 32 r.val)) (col 0#32) hw.down.1 >>= fun _ =>
        pixel i bufV histV segs (broadcast S16 (BitVec.ofNat 32 r.val)) (col 1#32) hw.down.2.1 >>= fun _ =>
        pixel i bufV histV segs (broadcast S16 (BitVec.ofNat 32 r.val)) (col 2#32) hw.down.2.2.1 >>= fun _ =>
        pixel i bufV histV segs (broadcast S16 (BitVec.ofNat 32 r.val)) (col 3#32) hw.down.2.2.2.1 >>= fun _ =>
        pixel i bufV histV segs (broadcast S16 (BitVec.ofNat 32 r.val)) (col 4#32) hw.down.2.2.2.2.1 >>= fun _ =>
        pixel i bufV histV segs (broadcast S16 (BitVec.ofNat 32 r.val)) (col 5#32) hw.down.2.2.2.2.2.1 >>= fun _ =>
        pixel i bufV histV segs (broadcast S16 (BitVec.ofNat 32 r.val)) (col 6#32) hw.down.2.2.2.2.2.2.1 >>= fun _ =>
        pixel i bufV histV segs (broadcast S16 (BitVec.ofNat 32 r.val)) (col 7#32) hw.down.2.2.2.2.2.2.2 >>= k := by
    rfl
  iintro H Hk
  rw [e, wp_assume_of _ _ _ _ hw]
  iapply (wp_pixel d i f hf r 0 _ _ rfl rfl _ _) $$ H; iintro H
  iapply (wp_pixel d i f hf r 1 _ _ rfl rfl _ _) $$ H; iintro H
  iapply (wp_pixel d i f hf r 2 _ _ rfl rfl _ _) $$ H; iintro H
  iapply (wp_pixel d i f hf r 3 _ _ rfl rfl _ _) $$ H; iintro H
  iapply (wp_pixel d i f hf r 4 _ _ rfl rfl _ _) $$ H; iintro H
  iapply (wp_pixel d i f hf r 5 _ _ rfl rfl _ _) $$ H; iintro H
  iapply (wp_pixel d i f hf r 6 _ _ rfl rfl _ _) $$ H; iintro H
  iapply (wp_pixel d i f hf r 7 _ _ rfl rfl _ _) $$ H; iintro H
  iapply Hk
  iexact H

end Cert.Proof.Hist

end
-- ==== Proof.Readout.lean ====
/-
  The clearing of the histogram and its reading out into the stage, as rules.
-/
module

public import proofs.«01_k».proof.Proof.Steps
public import Idealize.ShloMosaic.Lib.VecWindow
public import Idealize.ShloMosaic.Lib.Pipeline.Value

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- An index of the stage. -/
abbrev ix (t p b : ℕ) (ht : t < 7) (hp : p < 14) (hb : b < 256) : S7x14x256.Idx :=
  fun | 0 => ⟨t, ht⟩ | 1 => ⟨p, hp⟩ | 2 => ⟨b, hb⟩

/-- An index of sixteen places of the histogram. -/
abbrev hx (n : ℕ) (h : n < 4608) : S4608.Idx := fun | 0 => ⟨n, h⟩

/-- The zero the histogram is cleared with. -/
def zero : F .f32 := FloatOps.ofBits .f32 0x00000000#32

theorem hist_store (f : S4608.Idx → F .f32) {off : Fin 1 → ℕ} {o : ℕ} (inb : ∀ a, off a + S16.size a ≤ S4608.size a) (ho : off = ![o]) (c : F .f32) :
    ((histV).access (Rect.unit (s := S4608) off S16.size inb)).write (Elt F) f (broadcast S16 c : FVec F S16 .f32) Finset.univ
      = fun x : S4608.Idx => if o ≤ (x 0).val ∧ (x 0).val < o + 16 then c else f x := by
  have h := View.read_writes_cons_put (Val := Elt F) (View.whole (cc0_scratch2 : Ref sig .scVector)) f inb (broadcast S16 c : FVec F S16 .f32) [] ho
  simp only [View.read_whole, View.writes_nil] at h
  refine Eq.trans h ?_
  funext x
  unfold VecWindow.put
  by_cases hc : o ≤ (x 0).val ∧ (x 0).val < o + 16
  · rw [if_pos hc, dif_pos (fun a => by
      match a with
      | ⟨0, _⟩ => exact hc)]
    rfl
  · rw [if_neg hc, dif_neg (fun h => hc (h 0))]

theorem hist_read (A : Fin 16 → ℕ → F .f32) {off : Fin 1 → ℕ} {o : ℕ} (inb : ∀ a, off a + S16.size a ≤ S4608.size a) (ho : off = ![o]) (l : Fin 16)
    (p : Fin 16) (b : ℕ) (hb : b + l.val < 288) (hp : o = 288 * p.val + b) :
    ((histV).access (Rect.unit (s := S4608) off S16.size inb)).read (Elt F) (lay A) (lane l) = A p (b + l.val) := by
  subst ho
  have e : ((histV).access (Rect.unit (s := S4608) ![o] S16.size inb)).read (Elt F) (lay A) (lane l)
      = lay A ((Rect.unit (s := S4608) ![o] S16.size inb).emb (lane l)) := rfl
  rw [e]
  have e2 : (((Rect.unit (s := S4608) ![o] S16.size inb).emb (lane l)) 0).val = o + 1 * l.val := rfl
  unfold lay
  have e3 : seg ((Rect.unit (s := S4608) ![o] S16.size inb).emb (lane l)) = p := Fin.ext (by
    show (((Rect.unit (s := S4608) ![o] S16.size inb).emb (lane l)) 0).val / 288 = p.val
    rw [e2]; omega)
  rw [e3, e2]
  congr 1
  omega

variable (d : Dev nD) (i : grid0.Coords)
variable {α : Type} {Q : α → sProp (MT nD τ sig (HIx 1) (Elt F) ℕ UU ℕ)} {k : PUnit → Prog (Eff F i) α}

theorem hist_set (r : Rect S4608) (f : S4608.Idx → F .f32) : ((histV).access r).set ⊆ (Finset.univ : Finset S4608.Idx) := Finset.subset_univ _

/-- Sixteen places cleared. -/
theorem wp_clear (t : Fin k0_t1_loop.trips) (f : S4608.Idx → F .f32) :
    histPts d i f ⊢ iprop((histPts d i (fun x => if 16 * t.val ≤ (x 0).val ∧ (x 0).val < 16 * t.val + 16 then zero else f x)
        -∗ wp frame (wpE (defs₀ (F := F)) 𝒱₀ (me d i) none) Set.univ (k ⟨⟩) Q)
      -∗ wp frame (wpE (defs₀ (F := F)) 𝒱₀ (me d i) none) Set.univ (clear i histV t >>= k) Q) := by
  have e : (clear i histV t >>= k : Prog (Eff F i) α)
      = .op (.load histV (Rect.unit (s := S4608) (k0_off1 t) S16.size (k0_off1_inb t)).toLoadRect (View.loadsAt_vmem h_S16)) fun _ =>
        .op (.store histV (Rect.unit (s := S4608) (k0_off1 t) S16.size (k0_off1_inb t)) zeros Finset.univ (View.stores_vmem_bits_univ h_S16 rfl) (.inl rfl)) k := rfl
  iintro H Hk
  rw [e]
  iapply (wp_load_rect 𝒱₀ (me d i) none Set.univ (m := histV) (r := Rect.unit (s := S4608) (k0_off1 t) S16.size (k0_off1_inb t))
    (k := fun _ => .op (.store histV (Rect.unit (s := S4608) (k0_off1 t) S16.size (k0_off1_inb t)) zeros Finset.univ (View.stores_vmem_bits_univ h_S16 rfl) (.inl rfl)) k)
    (S := Finset.univ) (Finset.subset_univ _)) $$ H
  iintro H
  iapply (wp_store 𝒱₀ (me d i) none Set.univ (m := histV) (r := Rect.unit (s := S4608) (k0_off1 t) S16.size (k0_off1_inb t)) (Mk := Finset.univ) (k := k)
    (S := Finset.univ) (Finset.subset_univ _)) $$ H
  iintro H
  iapply Hk
  have e2 : ((histV).access (Rect.unit (s := S4608) (k0_off1 t) S16.size (k0_off1_inb t))).write (Elt F) f zeros Finset.univ
      = fun x : S4608.Idx => if 16 * t.val ≤ (x 0).val ∧ (x 0).val < 16 * t.val + 16 then zero else f x :=
    hist_store f (k0_off1_inb t) (k0_off1_eq t) zero
  rw [e2]
  iexact H

/-- The indices of the stage's row `t`. -/
def stageSet (t : ℕ) : Finset S7x14x256.Idx := Finset.univ.filter fun y => (y 0).val = t

/-- Row `t` of the stage. -/
abbrev stageRow (t : ℕ) (f : S7x14x256.Idx → F .f32) : sProp (MT nD τ sig (HIx 1) (Elt F) ℕ UU ℕ) :=
  (me d i).loc cc0_scratch1 ↦[stageSet t]{fullShare} f

theorem stage_access_set (t : Fin k0_t2_loop.trips) (p : Fin k0_t4_loop.trips) (q : Fin 16) :
    ((stageV).access (Rect.unit (s := S7x14x256) (stageOff t p q) S1x1x16.size (stageOff_inb t p q))).set ⊆ stageSet t.val := by
  intro y hy
  obtain ⟨x, -, rfl⟩ := Finset.mem_map.mp hy
  refine Finset.mem_filter.mpr ⟨Finset.mem_univ _, ?_⟩
  have h0 : stageOff t p q 0 = t.val := congrFun (stageOff_eq t p q) 0
  have hx : (x 0).val < 1 := (x 0).isLt
  show stageOff t p q 0 + 1 * (x 0).val = t.val
  omega

theorem stage_store (f : S7x14x256.Idx → F .f32) (t : Fin k0_t2_loop.trips) (p : Fin k0_t4_loop.trips) (q : Fin 16) (x : FVec F S16 .f32) :
    ((stageV).access (Rect.unit (s := S7x14x256) (stageOff t p q) S1x1x16.size (stageOff_inb t p q))).write (Elt F) f
        (shapeCast S1x1x16 x shapeCasts_S16_S1x1x16) Finset.univ
      = fun y : S7x14x256.Idx => if (y 0).val = t.val ∧ (y 1).val = p.val ∧ (y 2).val / 16 = q.val
          then x (lane ⟨(y 2).val % 16, Nat.mod_lt _ (by decide)⟩) else f y := by
  have h := View.read_writes_cons_put (Val := Elt F) (View.whole (cc0_scratch1 : Ref sig .scVector)) f (stageOff_inb t p q)
    (shapeCast S1x1x16 x shapeCasts_S16_S1x1x16) [] (stageOff_eq t p q)
  simp only [View.read_whole, View.writes_nil] at h
  refine Eq.trans h ?_
  funext y
  unfold VecWindow.put
  have hiff : (∀ a, (![t.val, p.val, 16 * q.val] : Fin 3 → ℕ) a ≤ (y a).val ∧ (y a).val < (![t.val, p.val, 16 * q.val] : Fin 3 → ℕ) a + S1x1x16.size a)
      ↔ ((y 0).val = t.val ∧ (y 1).val = p.val ∧ (y 2).val / 16 = q.val) := by
    constructor
    · intro hh
      have h0 : t.val ≤ (y 0).val ∧ (y 0).val < t.val + 1 := hh 0
      have h1 : p.val ≤ (y 1).val ∧ (y 1).val < p.val + 1 := hh 1
      have h2 : 16 * q.val ≤ (y 2).val ∧ (y 2).val < 16 * q.val + 16 := hh 2
      omega
    · rintro ⟨h0, h1, h2⟩ a
      match a with
      | 0 => show t.val ≤ (y 0).val ∧ (y 0).val < t.val + 1; omega
      | 1 => show p.val ≤ (y 1).val ∧ (y 1).val < p.val + 1; omega
      | 2 => show 16 * q.val ≤ (y 2).val ∧ (y 2).val < 16 * q.val + 16; omega
  by_cases hc : (y 0).val = t.val ∧ (y 1).val = p.val ∧ (y 2).val / 16 = q.val
  · rw [if_pos hc]
    refine (dif_pos (hiff.mpr hc)).trans ?_
    refine shapeCast_apply _ _ _ _ ?_
    have hu := Rect.unitLocal_val (s := S7x14x256) (off := ![t.val, p.val, 16 * q.val]) (size := S1x1x16.size) y (hiff.mpr hc)
    generalize Rect.unitLocal (s := S7x14x256) (off := ![t.val, p.val, 16 * q.val]) (size := S1x1x16.size) y (hiff.mpr hc) = z at hu ⊢
    have z0 : (z 0).val < 1 := (z 0).isLt
    have z1 : (z 1).val < 1 := (z 1).isLt
    have z2 : (z 2).val = (y 2).val - 16 * q.val := hu 2
    rw [Shape.rowMajor_val_three, Shape.rowMajor_val_one]
    show (y 2).val % 16 = ((z 0).val * 1 + (z 1).val) * 16 + (z 2).val
    omega
  · rw [if_neg hc]
    exact dif_neg (fun h => hc (hiff.mp h))

/-- What the moving of the groups of `L` of patch `p` leaves of the histogram. -/
def left (p : ℕ) (L : List (Fin 16)) (A : Fin 16 → ℕ → F .f32) : Fin 16 → ℕ → F .f32 :=
  fun l k => if l.val = p ∧ ∃ q ∈ L, k / 16 = q.val + 1 then zero else A l k

/-- What it leaves in the stage. -/
def moved (t p : ℕ) (P : Fin 16) (L : List (Fin 16)) (A : Fin 16 → ℕ → F .f32) (f : S7x14x256.Idx → F .f32) : S7x14x256.Idx → F .f32 :=
  fun y => if (y 0).val = t ∧ (y 1).val = p ∧ ∃ q ∈ L, (y 2).val / 16 = q.val then A P (16 + (y 2).val) else f y

/-- Sixteen bins moved. -/
theorem wp_take (t : Fin k0_t2_loop.trips) (p : Fin k0_t4_loop.trips) (P : Fin 16) (hP : P.val = p.val) (q : Fin 16) (A : Fin 16 → ℕ → F .f32) (f : S7x14x256.Idx → F .f32) :
    iprop(histPts d i (lay A) ∗ stageRow d i t.val f)
      ⊢ iprop((iprop(histPts d i (lay (left p.val [q] A)) ∗ stageRow d i t.val (moved t.val p.val P [q] A f))
        -∗ wp frame (wpE (defs₀ (F := F)) 𝒱₀ (me d i) none) Set.univ (k ⟨⟩) Q)
      -∗ wp frame (wpE (defs₀ (F := F)) 𝒱₀ (me d i) none) Set.univ (take i stageV histV t p q >>= k) Q) := by
  have e : (take i stageV histV t p q >>= k : Prog (Eff F i) α)
      = .op (.load histV (Rect.unit (s := S4608) (k0_off3 p (BitVec.ofNat 32 (16 * q.val))) S16.size (k0_off3_inb p q)).toLoadRect (View.loadsAt_vmem h_S16)) fun x =>
        .op (.load histV (Rect.unit (s := S4608) (k0_off3 p (BitVec.ofNat 32 (16 * q.val))) S16.size (k0_off3_inb p q)).toLoadRect (View.loadsAt_vmem h_S16)) fun _ =>
        .op (.store histV (Rect.unit (s := S4608) (k0_off3 p (BitVec.ofNat 32 (16 * q.val))) S16.size (k0_off3_inb p q)) zeros Finset.univ (View.stores_vmem_bits_univ h_S16 rfl) (.inl rfl)) fun _ =>
        .op (.load stageV (Rect.unit (s := S7x14x256) (stageOff t p q) S1x1x16.size (stageOff_inb t p q)).toLoadRect (View.loadsAt_vmem h_S1x1x16)) fun _ =>
        .op (.store stageV (Rect.unit (s := S7x14x256) (stageOff t p q) S1x1x16.size (stageOff_inb t p q)) (shapeCast S1x1x16 x shapeCasts_S16_S1x1x16) Finset.univ (View.stores_vmem_bits_univ h_S1x1x16 rfl) (.inl rfl)) k := rfl
  iintro ⟨H, Hs⟩ Hk
  rw [e]
  iapply (wp_load_rect 𝒱₀ (me d i) none Set.univ (m := histV) (r := Rect.unit (s := S4608) (k0_off3 p (BitVec.ofNat 32 (16 * q.val))) S16.size (k0_off3_inb p q))
    (S := Finset.univ) (Finset.subset_univ _)) $$ H
  iintro H
  iapply (wp_load_rect 𝒱₀ (me d i) none Set.univ (m := histV) (r := Rect.unit (s := S4608) (k0_off3 p (BitVec.ofNat 32 (16 * q.val))) S16.size (k0_off3_inb p q))
    (S := Finset.univ) (Finset.subset_univ _)) $$ H
  iintro H
  iapply (wp_store 𝒱₀ (me d i) none Set.univ (m := histV) (r := Rect.unit (s := S4608) (k0_off3 p (BitVec.ofNat 32 (16 * q.val))) S16.size (k0_off3_inb p q)) (Mk := Finset.univ)
    (S := Finset.univ) (Finset.subset_univ _)) $$ H
  iintro H
  iapply (wp_load_rect 𝒱₀ (me d i) none Set.univ (m := stageV) (r := Rect.unit (s := S7x14x256) (stageOff t p q) S1x1x16.size (stageOff_inb t p q))
    (S := stageSet t.val) (stage_access_set t p q)) $$ Hs
  iintro Hs
  iapply (wp_store 𝒱₀ (me d i) none Set.univ (m := stageV) (r := Rect.unit (s := S7x14x256) (stageOff t p q) S1x1x16.size (stageOff_inb t p q)) (Mk := Finset.univ)
    (S := stageSet t.val) (stage_access_set t p q)) $$ Hs
  iintro Hs
  iapply Hk
  have hq := q.isLt
  have hoff : k0_off3 p (BitVec.ofNat 32 (16 * q.val)) = ![288 * p.val + 16 * q.val + 16] := k0_off3_eq p q
  have e1 : ((histV).access (Rect.unit (s := S4608) (k0_off3 p (BitVec.ofNat 32 (16 * q.val))) S16.size (k0_off3_inb p q))).write (Elt F) (lay A) zeros Finset.univ
      = lay (left p.val [q] A) := by
    refine (hist_store (lay A) (k0_off3_inb p q) hoff zero).trans (funext fun x => ?_)
    have hx : (x 0).val < 4608 := (x 0).isLt
    unfold left lay
    have hs : (seg x).val = (x 0).val / 288 := rfl
    refine if_congr ?_ rfl rfl
    simp only [List.mem_singleton, exists_eq_left, hs]
    omega
  have e2 := stage_store f t p q (((histV).access (Rect.unit (s := S4608) (k0_off3 p (BitVec.ofNat 32 (16 * q.val))) S16.size (k0_off3_inb p q))).read (Elt F) (lay A))
  have e3 : (fun y : S7x14x256.Idx => if (y 0).val = t.val ∧ (y 1).val = p.val ∧ (y 2).val / 16 = q.val
          then (((histV).access (Rect.unit (s := S4608) (k0_off3 p (BitVec.ofNat 32 (16 * q.val))) S16.size (k0_off3_inb p q))).read (Elt F) (lay A)) (lane ⟨(y 2).val % 16, Nat.mod_lt _ (by decide)⟩) else f y)
      = moved t.val p.val P [q] A f := by
    funext y
    unfold moved
    by_cases hc : (y 0).val = t.val ∧ (y 1).val = p.val ∧ (y 2).val / 16 = q.val
    · rw [if_pos hc, if_pos (by simpa using hc)]
      refine (hist_read A (k0_off3_inb p q) hoff _ P (16 * q.val + 16) (by show _ + (y 2).val % 16 < _; omega) (by omega)).trans ?_
      refine congrArg (A P) ?_
      show 16 * q.val + 16 + (y 2).val % 16 = 16 + (y 2).val
      omega
    · rw [if_neg hc, if_neg (by simpa using hc)]
  rw [e1, e2, e3]
  isplitl [H]
  · iexact H
  · iexact Hs

theorem left_cons (p : ℕ) (q : Fin 16) (L : List (Fin 16)) (A : Fin 16 → ℕ → F .f32) : left p L (left p [q] A) = left p (q :: L) A := by
  funext l k
  unfold left
  by_cases h1 : l.val = p ∧ ∃ q' ∈ L, k / 16 = q'.val + 1
  · rw [if_pos h1, if_pos ⟨h1.1, by obtain ⟨_, q', h, h'⟩ := h1; exact ⟨q', List.mem_cons_of_mem _ h, h'⟩⟩]
  · rw [if_neg h1]
    refine if_congr ?_ rfl rfl
    constructor
    · rintro ⟨h, q', hq, h'⟩; exact ⟨h, q', by simp at hq; simp [hq], h'⟩
    · rintro ⟨h, q', hq, h'⟩
      refine ⟨h, q', ?_, h'⟩
      rcases List.mem_cons.mp hq with rfl | hq
      · exact List.mem_singleton.mpr rfl
      · exact absurd ⟨h, q', hq, h'⟩ h1

theorem moved_cons (t p : ℕ) (P : Fin 16) (q : Fin 16) (L : List (Fin 16)) (hq : q ∉ L) (A : Fin 16 → ℕ → F .f32) (f : S7x14x256.Idx → F .f32) :
    moved t p P L (left p [q] A) (moved t p P [q] A f) = moved t p P (q :: L) A f := by
  funext y
  unfold moved
  by_cases h1 : (y 0).val = t ∧ (y 1).val = p ∧ ∃ q' ∈ L, (y 2).val / 16 = q'.val
  · rw [if_pos h1, if_pos ⟨h1.1, h1.2.1, by obtain ⟨_, _, q', h, h'⟩ := h1; exact ⟨q', List.mem_cons_of_mem _ h, h'⟩⟩]
    unfold left
    rw [if_neg]
    rintro ⟨-, q'', hq'', h''⟩
    obtain ⟨-, -, q', h, h'⟩ := h1
    obtain rfl := List.mem_singleton.mp hq''
    exact hq (by rwa [show q'' = q' from Fin.ext (by omega)])
  · rw [if_neg h1]
    refine if_congr ?_ rfl rfl
    constructor
    · rintro ⟨h, h2, q', hq, h'⟩; exact ⟨h, h2, q', by simp at hq; simp [hq], h'⟩
    · rintro ⟨h, h2, q', hq, h'⟩
      refine ⟨h, h2, q', ?_, h'⟩
      rcases List.mem_cons.mp hq with rfl | hq
      · exact List.mem_singleton.mpr rfl
      · exact absurd ⟨h, h2, q', hq, h'⟩ h1

theorem left_nil (p : ℕ) (A : Fin 16 → ℕ → F .f32) : left p [] A = A := by
  funext l k; unfold left; simp
theorem moved_nil (t p : ℕ) (P : Fin 16) (A : Fin 16 → ℕ → F .f32) (f : S7x14x256.Idx → F .f32) : moved t p P [] A f = f := by
  funext y; unfold moved; simp

/-- Several groups of sixteen bins moved. -/
theorem wp_takes (t : Fin k0_t2_loop.trips) (p : Fin k0_t4_loop.trips) (P : Fin 16) (hP : P.val = p.val) :
    ∀ (L : List (Fin 16)) (_ : L.Nodup) (A : Fin 16 → ℕ → F .f32) (f : S7x14x256.Idx → F .f32),
    iprop(histPts d i (lay A) ∗ stageRow d i t.val f)
      ⊢ iprop((iprop(histPts d i (lay (left p.val L A)) ∗ stageRow d i t.val (moved t.val p.val P L A f))
        -∗ wp frame (wpE (defs₀ (F := F)) 𝒱₀ (me d i) none) Set.univ (k ⟨⟩) Q)
      -∗ wp frame (wpE (defs₀ (F := F)) 𝒱₀ (me d i) none) Set.univ (takes i stageV histV t p L >>= k) Q)
  | [], _, A, f => by
    iintro H Hk
    iapply Hk
    rw [left_nil, moved_nil]
    iexact H
  | q :: L, hL, A, f => by
    iintro H Hk
    unfold takes
    rw [bind_assoc]
    iapply (wp_take d i t p P hP q A f) $$ H
    iintro H
    iapply (wp_takes t p P hP L (List.nodup_cons.mp hL).2 _ _) $$ H
    iintro H
    iapply Hk
    rw [left_cons, moved_cons _ _ _ _ _ (List.nodup_cons.mp hL).1]
    iexact H

end Cert.Proof.Hist

end
-- ==== Proof.Loops.lean ====
/-
  The loops of the kernel, as rules: the histogram cleared, the rows of a strip put, the patches read out.
-/
module

public import proofs.«01_k».proof.Proof.Readout

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

theorem trips1 : k0_t1_loop.trips = 288 := by decide +kernel
theorem trips2 : k0_t2_loop.trips = 7 := by decide +kernel
theorem trips3 : k0_t3_loop.trips = 8 := by decide +kernel
theorem trips4 : k0_t4_loop.trips = 14 := by decide +kernel

theorem row_iv (r : Fin k0_t3_loop.trips) : Scf.iv 0#32 1#32 r = BitVec.ofNat 32 r.val := by
  unfold Scf.iv
  rw [BitVec.zero_add, BitVec.mul_one]

variable (d : Dev nD) (i : grid0.Coords)
variable {α : Type} {Q : α → sProp (MT nD τ sig (HIx 1) (Elt F) ℕ UU ℕ)} {k : PUnit → Prog (Eff F i) α}

/-- A rule of a piece at the head of a program, at the piece alone. -/
theorem wp_alone {p : Prog (Eff F i) PUnit} {A B : sProp (MT nD τ sig (HIx 1) (Elt F) ℕ UU ℕ)}
    (h : A ⊢ iprop((B -∗ wp frame (wpE (defs₀ (F := F)) 𝒱₀ (me d i) none) Set.univ ((pure : PUnit → Prog (Eff F i) PUnit) ⟨⟩) (fun _ => B))
      -∗ wp frame (wpE (defs₀ (F := F)) 𝒱₀ (me d i) none) Set.univ (p >>= (pure : PUnit → Prog (Eff F i) PUnit)) (fun _ => B))) :
    A ⊢ wp frame (wpE (defs₀ (F := F)) 𝒱₀ (me d i) none) Set.univ p (fun _ => B) := by
  rw [bind_pure] at h
  iintro HA
  iapply h $$ HA
  iintro HB
  rw [wp_pure]
  imodintro
  iexact HB

/-- The whole histogram cleared. -/
theorem wp_clears :
    iprop(∃ f, histPts d i f) ⊢ iprop((histPts d i (lay fun _ _ => zero)
        -∗ wp frame (wpE (defs₀ (F := F)) 𝒱₀ (me d i) none) Set.univ (k ⟨⟩) Q)
      -∗ wp frame (wpE (defs₀ (F := F)) 𝒱₀ (me d i) none) Set.univ
          ((Scf.Loop.for k0_t1_loop k0_t1_ok ⟨⟩ fun t _ => clear i histV t) >>= k) Q) := by
  iintro ⟨%f, H⟩ Hk
  iapply (Scf.wp_for_bind frame (wpE (defs₀ (F := F)) 𝒱₀ (me d i) none) Set.univ _ _ _ k0_t1_ok ⟨⟩ (fun t _ => clear i histV t)
    (fun n _ => iprop(∃ f : S4608.Idx → F .f32, ⌜∀ x, (x 0).val < 16 * n → f x = zero⌝ ∗ histPts d i f)) (fun t _ => by
      refine wp_alone d i ?_
      iintro ⟨%f, %hf, H⟩ Hk
      iapply (wp_clear d i t f) $$ H
      iintro H
      iapply Hk
      iexists _
      isplitr
      swap
      · iexact H
      ipureintro
      intro x hx
      show (if _ then _ else _) = _
      by_cases hc : 16 * t.val ≤ (x 0).val ∧ (x 0).val < 16 * t.val + 16
      · rw [if_pos hc]
      · rw [if_neg hc]; exact hf x (by omega))) $$ [H]
  · iexists f
    isplitr
    swap
    · iexact H
    ipureintro
    intro x hx
    omega
  iintro %_ ⟨%g, %hg, H⟩
  have e : g = lay fun _ _ => zero := funext fun x => hg x (by
    have hx : (x 0).val < 4608 := (x 0).isLt
    have := trips1
    show _ < 16 * k0_t1_loop.trips
    omega)
  subst e
  iapply Hk
  iexact H

/-- A strip's rows put. -/
theorem wp_rows (f : S8x112.Idx → F .f32) (hf : InBins f) (A : Fin 16 → ℕ → F .f32) :
    iprop(bufPts d i f ∗ histPts d i (lay A))
      ⊢ iprop((iprop(bufPts d i f ∗ histPts d i (lay fun l k => rowsF f l k 8 (A l k)))
        -∗ wp frame (wpE (defs₀ (F := F)) 𝒱₀ (me d i) none) Set.univ (k ⟨⟩) Q)
      -∗ wp frame (wpE (defs₀ (F := F)) 𝒱₀ (me d i) none) Set.univ
          ((Scf.Loop.for k0_t3_loop k0_t3_ok ⟨⟩ fun r _ =>
            row i bufV histV segs (col 0#32) (col 1#32) (col 2#32) (col 3#32) (col 4#32) (col 5#32) (col 6#32) (col 7#32) (broadcast S16 (Scf.iv 0#32 1#32 r))) >>= k) Q) := by
  iintro H Hk
  iapply (Scf.wp_for_bind frame (wpE (defs₀ (F := F)) 𝒱₀ (me d i) none) Set.univ _ _ _ k0_t3_ok ⟨⟩ (fun r _ =>
        row i bufV histV segs (col 0#32) (col 1#32) (col 2#32) (col 3#32) (col 4#32) (col 5#32) (col 6#32) (col 7#32) (broadcast S16 (Scf.iv 0#32 1#32 r)))
    (fun n _ => iprop(bufPts d i f ∗ histPts d i (lay fun l k => rowsF f l k n (A l k)))) (fun r _ => by
      refine wp_alone d i ?_
      rw [row_iv]
      have hr : r.val < 8 := lt_of_lt_of_eq r.isLt trips3
      iintro H Hk
      iapply (wp_row d i f hf ⟨r.val, hr⟩ _) $$ H
      iintro H
      iapply Hk
      simp only [rowsF_succ]
      iexact H)) $$ [H]
  · iexact H
  iintro %_ H
  iapply Hk
  have e : Scf.trips k0_t3_loop.lb k0_t3_loop.ub k0_t3_loop.st = 8 := trips3
  rw [e]
  iexact H

/-- The bins a patch's segment is read out of are zero. -/
def Clean (A : Fin 16 → ℕ → F .f32) : Prop := ∀ l k, l.val < 14 → 16 ≤ k → k < 272 → A l k = zero

/-- The patches read out. -/
theorem wp_reads (t : Fin k0_t2_loop.trips) (A : Fin 16 → ℕ → F .f32) (f : S7x14x256.Idx → F .f32) :
    iprop(histPts d i (lay A) ∗ stageRow d i t.val f)
      ⊢ iprop((iprop((∃ A' : Fin 16 → ℕ → F .f32, ⌜Clean A'⌝ ∗ histPts d i (lay A'))
            ∗ ∃ f' : S7x14x256.Idx → F .f32, ⌜∀ y l, (y 0).val = t.val → l.val = (y 1).val → f' y = A l (16 + (y 2).val)⌝ ∗ stageRow d i t.val f')
        -∗ wp frame (wpE (defs₀ (F := F)) 𝒱₀ (me d i) none) Set.univ (k ⟨⟩) Q)
      -∗ wp frame (wpE (defs₀ (F := F)) 𝒱₀ (me d i) none) Set.univ
          ((Scf.Loop.for k0_t4_loop k0_t4_ok ⟨⟩ fun p _ => takes i stageV histV t p [0, 1, 2, 3, 4, 5, 6, 7, 8, 9, 10, 11, 12, 13, 14, 15]) >>= k) Q) := by
  have hall : ∀ q : Fin 16, q ∈ [(0 : Fin 16), 1, 2, 3, 4, 5, 6, 7, 8, 9, 10, 11, 12, 13, 14, 15] := by decide
  iintro ⟨H, Hs⟩ Hk
  iapply (Scf.wp_for_bind frame (wpE (defs₀ (F := F)) 𝒱₀ (me d i) none) Set.univ _ _ _ k0_t4_ok ⟨⟩
    (fun p _ => takes i stageV histV t p [0, 1, 2, 3, 4, 5, 6, 7, 8, 9, 10, 11, 12, 13, 14, 15])
    (fun n _ => iprop(∃ (A' : Fin 16 → ℕ → F .f32) (f' : S7x14x256.Idx → F .f32),
      ⌜(∀ l k, n ≤ l.val → A' l k = A l k) ∧ (∀ l k, l.val < n → 16 ≤ k → k < 272 → A' l k = zero)
        ∧ (∀ y l, (y 0).val = t.val → (y 1).val < n → l.val = (y 1).val → f' y = A l (16 + (y 2).val))⌝
      ∗ histPts d i (lay A') ∗ stageRow d i t.val f')) (fun p _ => by
      refine wp_alone d i ?_
      iintro ⟨%A', %f', %h, H, Hs⟩ Hk
      obtain ⟨h1, h2, h3⟩ := h
      have hp : p.val < 14 := lt_of_lt_of_eq p.isLt trips4
      ihave HH := (show iprop(histPts d i (lay A') ∗ stageRow d i t.val f') ⊢ iprop(histPts d i (lay A') ∗ stageRow d i t.val f') from .rfl) $$ [H Hs]
      · isplitl [H]
        · iexact H
        · iexact Hs
      iapply (wp_takes d i t p ⟨p.val, by omega⟩ rfl _ (by decide) A' f') $$ HH
      iintro ⟨H, Hs⟩
      iapply Hk
      iexists _, _
      isplitr
      swap
      · isplitl [H]
        · iexact H
        · iexact Hs
      ipureintro
      refine ⟨fun l k hl => ?_, fun l k hl hk1 hk2 => ?_, fun y l hy hy1 hl => ?_⟩
      · unfold left
        rw [if_neg (fun hc => by omega)]
        exact h1 l k (by omega)
      · unfold left
        by_cases hlp : l.val = p.val
        · rw [if_pos ⟨hlp, ⟨k / 16 - 1, by omega⟩, hall _, by show _ = k / 16 - 1 + 1; omega⟩]
        · rw [if_neg (fun hc => hlp hc.1)]
          exact h2 l k (by omega) hk1 hk2
      · unfold moved
        have hy2 : (y 2).val < 256 := (y 2).isLt
        by_cases hlp : (y 1).val = p.val
        · rw [if_pos ⟨hy, hlp, ⟨(y 2).val / 16, by omega⟩, hall _, rfl⟩]
          rw [show (⟨p.val, by omega⟩ : Fin 16) = l from Fin.ext (by show p.val = l.val; omega)]
          exact h1 l _ (by omega)
        · rw [if_neg (fun hc => hlp hc.2.1)]
          exact h3 y l hy (by omega) hl)) $$ [H Hs]
  · iexists A, f
    isplitr
    · ipureintro
      exact ⟨fun _ _ _ => rfl, fun _ _ h => absurd h (Nat.not_lt_zero _), fun _ _ _ h => absurd h (Nat.not_lt_zero _)⟩
    isplitl [H]
    · iexact H
    · iexact Hs
  iintro %_ ⟨%A', %f', %h, H, Hs⟩
  have e : Scf.trips k0_t4_loop.lb k0_t4_loop.ub k0_t4_loop.st = 14 := trips4
  rw [e] at h
  obtain ⟨h1, h2, h3⟩ := h
  iapply Hk
  isplitl [H]
  · iexists A'
    isplitr
    · ipureintro; exact fun l k hl => h2 l k hl
    · iexact H
  · iexists f'
    isplitr
    · ipureintro; exact fun y l hy hl => h3 y l hy (y 1).isLt hl
    · iexact Hs

end Cert.Proof.Hist

end
-- ==== Proof.Task.lean ====
/-
  A strip's turn: fetched, binned, read out, its histograms sent off; and the task of a tile, its seven strips' turns.
-/
module

public import proofs.«01_k».proof.Proof.Loops
public import Idealize.ShloMosaic.Lib.Batch
public import Idealize.ShloMosaic.Lib.Transfers

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The strip numbered `n` of the strips' array. -/
def stripOf (g : S224x8x112.Idx → F .f32) (n : Fin 224) : S8x112.Idx → F .f32 := fun y => g (fun | 0 => n | 1 => y 0 | 2 => y 1)

/-- The histograms of all the strips' patches. -/
def hists (g : S224x8x112.Idx → F .f32) : S3136x256.Idx → F .f32 := fun y =>
  rowsF (stripOf g ⟨(y 0).val / 14, by have h : (y 0).val < 3136 := (y 0).isLt; omega⟩)
    ⟨(y 0).val % 14, (Nat.mod_lt _ (by decide)).trans (by decide)⟩ (16 + (y 1).val) 8 zero

/-- The part of the strips' array that is strip `n`, and the part of the result strip `n` fills. -/
def inSet (n : ℕ) : Finset S224x8x112.Idx := Finset.univ.filter fun y => (y 0).val = n
def outSet (n : ℕ) : Finset S3136x256.Idx := Finset.univ.filter fun y => (y 0).val / 14 = n

/-- The number of the tile's strip `t`. -/
def num (i : grid0.Coords) (t : Fin 7) : Fin 224 :=
  ⟨7 * (2 * (i 1).val + (i 0).val) + t.val, by
    have h0 : (i 0).val < 2 := (i 0).isLt
    have h1 : (i 1).val < 16 := (i 1).isLt
    omega⟩

variable (d : Dev nD) (i : grid0.Coords)
variable {α : Type} {Q : α → sProp (MT nD τ sig (HIx 1) (Elt F) ℕ UU ℕ)} {k : PUnit → Prog (Eff F i) α}

/-- The loop's number of a strip. -/
abbrev lp (t : Fin 7) : Fin k0_t2_loop.trips := ⟨t.val, lt_of_lt_of_eq t.isLt trips2.symm⟩

/-- The strips' array and the result as the task's thread holds them. -/
abbrev inPts (n : Fin 224) (g : S224x8x112.Idx → F .f32) : sProp (MT nD τ sig (HIx 1) (Elt F) ℕ UU ℕ) :=
  (SparseCore.T d).loc main_v4 ↦[inSet n.val]{fullShare} g
abbrev outPts (n : Fin 224) (f : S3136x256.Idx → F .f32) : sProp (MT nD τ sig (HIx 1) (Elt F) ℕ UU ℕ) :=
  (SparseCore.T d).loc main_v5 ↦[outSet n.val]{fullShare} f

theorem set_stripAt (t : Fin 7) : (stripAt i inV (lp t)).view.set = inSet (num i t).val := by
  show (((inV).view.slice (Rect.unit (s := S224x8x112) (k0_off2 i (lp t)) S1x8x112.size (k0_off2_inb i (lp t)))).reshape S8x112 squeezes_S1x8x112_S8x112.numel_eq).set = _
  rw [View.set_reshape]
  refine (View.set_slice_whole (main_v4_scv : Ref sig .scVector) _).trans ?_
  ext y
  rw [Rect.mem_set_unit, k0_off2_eq]
  have hy0 : (y 0).val < 224 := (y 0).isLt
  have hy1 : (y 1).val < 8 := (y 1).isLt
  have hy2 : (y 2).val < 112 := (y 2).isLt
  constructor
  · intro h
    have h0 : 14 * (i 1).val + 7 * (i 0).val + t.val ≤ (y 0).val ∧ (y 0).val < 14 * (i 1).val + 7 * (i 0).val + t.val + 1 := h 0
    refine Finset.mem_filter.mpr ⟨Finset.mem_univ _, ?_⟩
    show (y 0).val = 7 * (2 * (i 1).val + (i 0).val) + t.val
    omega
  · intro h a
    have h0 : (y 0).val = 7 * (2 * (i 1).val + (i 0).val) + t.val := (Finset.mem_filter.mp h).2
    match a with
    | 0 => show 14 * (i 1).val + 7 * (i 0).val + t.val ≤ (y 0).val ∧ (y 0).val < 14 * (i 1).val + 7 * (i 0).val + t.val + 1; omega
    | 1 => show 0 ≤ (y 1).val ∧ (y 1).val < 0 + 8; omega
    | 2 => show 0 ≤ (y 2).val ∧ (y 2).val < 0 + 112; omega

theorem set_stageAt (t : Fin 7) : (stageAt stageV (lp t)).view.set = stageSet t.val := by
  show (((stageV).view.slice (Rect.unit (s := S7x14x256) (k0_off20 (lp t)) S1x14x256.size (k0_off20_inb (lp t)))).reshape S14x256 squeezes_S1x14x256_S14x256.numel_eq).set = _
  rw [View.set_reshape]
  refine (View.set_slice_whole (cc0_scratch1 : Ref sig .scVector) _).trans ?_
  ext y
  rw [Rect.mem_set_unit, k0_off20_eq]
  have hy1 : (y 1).val < 14 := (y 1).isLt
  have hy2 : (y 2).val < 256 := (y 2).isLt
  constructor
  · intro h
    have h0 : t.val ≤ (y 0).val ∧ (y 0).val < t.val + 1 := h 0
    refine Finset.mem_filter.mpr ⟨Finset.mem_univ _, ?_⟩
    omega
  · intro h a
    have h0 : (y 0).val = t.val := (Finset.mem_filter.mp h).2
    match a with
    | 0 => show t.val ≤ (y 0).val ∧ (y 0).val < t.val + 1; omega
    | 1 => show 0 ≤ (y 1).val ∧ (y 1).val < 0 + 14; omega
    | 2 => show 0 ≤ (y 2).val ∧ (y 2).val < 0 + 256; omega

theorem set_outAt (t : Fin 7) : (outAt i outV (lp t)).view.set = outSet (num i t).val := by
  refine (View.set_slice_whole (main_v5_scv : Ref sig .scVector) _).trans ?_
  ext y
  rw [Rect.mem_set_unit, k0_off21_eq]
  have hy1 : (y 1).val < 256 := (y 1).isLt
  constructor
  · intro h
    have h0 : 196 * (i 1).val + 98 * (i 0).val + 14 * t.val ≤ (y 0).val ∧ (y 0).val < 196 * (i 1).val + 98 * (i 0).val + 14 * t.val + 14 := h 0
    refine Finset.mem_filter.mpr ⟨Finset.mem_univ _, ?_⟩
    show (y 0).val / 14 = 7 * (2 * (i 1).val + (i 0).val) + t.val
    omega
  · intro h a
    have h0 : (y 0).val / 14 = 7 * (2 * (i 1).val + (i 0).val) + t.val := (Finset.mem_filter.mp h).2
    match a with
    | 0 => show 196 * (i 1).val + 98 * (i 0).val + 14 * t.val ≤ (y 0).val ∧ (y 0).val < 196 * (i 1).val + 98 * (i 0).val + 14 * t.val + 14; omega
    | 1 => show 0 ≤ (y 1).val ∧ (y 1).val < 0 + 256; omega

/-- The strip as the fetch reads it. -/
theorem read_stripAt (t : Fin 7) (g : S224x8x112.Idx → F .f32) :
    (stripAt i inV (lp t)).view.read (Elt F) g = stripOf g (num i t) := by
  funext y
  have e : (stripAt i inV (lp t)).view.read (Elt F) g y = g ((stripAt i inV (lp t)).view.emb y) := (View.read_apply _ _).trans (cast_eq _ _)
  rw [e]
  refine congrArg g ?_
  have hy0 : (y 0).val < 8 := (y 0).isLt
  have hy1 : (y 1).val < 112 := (y 1).isLt
  have hr : Shape.reshapeEquiv squeezes_S1x8x112_S8x112.numel_eq y = (fun | 0 => ⟨0, by decide⟩ | 1 => y 0 | 2 => y 1 : S1x8x112.Idx) :=
    Shape.reshapeEquiv_eq_of_rowMajor _ (by
      rw [Shape.rowMajor_val_three, Shape.rowMajor_val_two]
      show (0 * 8 + (y 0).val) * 112 + (y 1).val = (y 0).val * 112 + (y 1).val
      omega)
  show (Rect.unit (s := S224x8x112) (k0_off2 i (lp t)) S1x8x112.size (k0_off2_inb i (lp t))).emb (Shape.reshapeEquiv squeezes_S1x8x112_S8x112.numel_eq y) = _
  rw [hr]
  have ho := k0_off2_eq i (lp t)
  have o0 : k0_off2 i (lp t) 0 = 14 * (i 1).val + 7 * (i 0).val + t.val := congrFun ho 0
  have o1 : k0_off2 i (lp t) 1 = 0 := congrFun ho 1
  have o2 : k0_off2 i (lp t) 2 = 0 := congrFun ho 2
  funext a
  match a with
  | 0 =>
    refine Fin.ext ?_
    show k0_off2 i (lp t) 0 + 1 * 0 = 7 * (2 * (i 1).val + (i 0).val) + t.val
    omega
  | 1 =>
    refine Fin.ext ?_
    show k0_off2 i (lp t) 1 + 1 * (y 0).val = (y 0).val
    omega
  | 2 =>
    refine Fin.ext ?_
    show k0_off2 i (lp t) 2 + 1 * (y 1).val = (y 1).val
    omega

/-- Where an element of a row of the stage, and of a strip's part of the result, stands. -/
def stageIx (t : Fin 7) (x : S14x256.Idx) : S7x14x256.Idx := (stageAt stageV (lp t)).view.emb x
def outIx (t : Fin 7) (x : S14x256.Idx) : S3136x256.Idx := (outAt i outV (lp t)).view.emb x

/-- What the sending of a filled row of the stage leaves of the strip's part of the result. -/
theorem write_outAt (t : Fin 7) (g : S224x8x112.Idx → F .f32) (fd : S3136x256.Idx → F .f32) (fs : S7x14x256.Idx → F .f32)
    (hfs : ∀ (y : S7x14x256.Idx) (l : Fin 16), (y 0).val = t.val → l.val = (y 1).val → fs y = rowsF (stripOf g (num i t)) l (16 + (y 2).val) 8 zero)
    (y : S3136x256.Idx) (hy : y ∈ outSet (num i t).val) :
    (outAt i outV (lp t)).view.write (Elt F) fd ((stageAt stageV (lp t)).view.read (Elt F) fs) Finset.univ y = hists g y := by
  rw [← set_outAt] at hy
  obtain ⟨x, -, rfl⟩ := Finset.mem_map.mp hy
  have e1 : (outAt i outV (lp t)).view.write (Elt F) fd ((stageAt stageV (lp t)).view.read (Elt F) fs) Finset.univ ((outAt i outV (lp t)).view.emb x)
      = (stageAt stageV (lp t)).view.read (Elt F) fs x := (View.write_emb_of_mem _ _ (Finset.mem_univ _)).trans (cast_eq _ _)
  have e2 : (stageAt stageV (lp t)).view.read (Elt F) fs x = fs ((stageAt stageV (lp t)).view.emb x) := (View.read_apply _ _).trans (cast_eq _ _)
  have hx0 : (x 0).val < 14 := (x 0).isLt
  have hx1 : (x 1).val < 256 := (x 1).isLt
  have hr : Shape.reshapeEquiv squeezes_S1x14x256_S14x256.numel_eq x = (fun | 0 => ⟨0, by decide⟩ | 1 => x 0 | 2 => x 1 : S1x14x256.Idx) :=
    Shape.reshapeEquiv_eq_of_rowMajor _ (by
      rw [Shape.rowMajor_val_three, Shape.rowMajor_val_two]
      show (0 * 14 + (x 0).val) * 256 + (x 1).val = (x 0).val * 256 + (x 1).val
      omega)
  have ho := k0_off20_eq (lp t)
  have o0 : k0_off20 (lp t) 0 = t.val := congrFun ho 0
  have o1 : k0_off20 (lp t) 1 = 0 := congrFun ho 1
  have o2 : k0_off20 (lp t) 2 = 0 := congrFun ho 2
  have hemb : stageIx t x
      = (Rect.unit (s := S7x14x256) (k0_off20 (lp t)) S1x14x256.size (k0_off20_inb (lp t))).emb (fun | 0 => ⟨0, by decide⟩ | 1 => x 0 | 2 => x 1 : S1x14x256.Idx) := by
    rw [← hr]; rfl
  have p0 : ((stageIx t x) 0).val = t.val := by
    rw [hemb]; show k0_off20 (lp t) 0 + 1 * 0 = _; omega
  have p1 : ((stageIx t x) 1).val = (x 0).val := by
    rw [hemb]; show k0_off20 (lp t) 1 + 1 * (x 0).val = _; omega
  have p2 : ((stageIx t x) 2).val = (x 1).val := by
    rw [hemb]; show k0_off20 (lp t) 2 + 1 * (x 1).val = _; omega
  have hq := k0_off21_eq i (lp t)
  have q0 : k0_off21 i (lp t) 0 = 196 * (i 1).val + 98 * (i 0).val + 14 * t.val := congrFun hq 0
  have q1 : k0_off21 i (lp t) 1 = 0 := congrFun hq 1
  have r0 : ((outIx i t x) 0).val = 196 * (i 1).val + 98 * (i 0).val + 14 * t.val + (x 0).val := by
    show k0_off21 i (lp t) 0 + 1 * (x 0).val = _; omega
  have r1 : ((outIx i t x) 1).val = (x 1).val := by
    show k0_off21 i (lp t) 1 + 1 * (x 1).val = _; omega
  refine e1.trans (e2.trans ?_)
  show fs (stageIx t x) = hists g (outIx i t x)
  generalize outIx i t x = w at r0 r1 ⊢
  rw [hfs _ ⟨(x 0).val, by omega⟩ p0 p1.symm, p2]
  unfold hists
  rw [r1]
  congr 1
  · congr 1
    refine Fin.ext ?_
    show 7 * (2 * (i 1).val + (i 0).val) + t.val = (w 0).val / 14
    omega
  · refine Fin.ext ?_
    show (x 0).val = (w 0).val % 14
    omega

/-- What the sending of strip `t` delivers. -/
def Sent (g : S224x8x112.Idx → F .f32) (t : Fin 7) : sProp (MT nD τ sig (HIx 1) (Elt F) ℕ UU ℕ) :=
  iprop(outPts d (num i t) (hists g) ∗ ∃ fs, stageRow d i t.val fs)

instance Sent_storable (g : S224x8x112.Idx → F .f32) (t : Fin 7) : BI.Storable (upEmb : UEmb _ (MT nD τ sig (HIx 1) (Elt F) ℕ UU ℕ)) (Sent d i g t) :=
  (inferInstance : BI.Storable (upEmb : UEmb _ (MT nD τ sig (HIx 1) (Elt F) ℕ UU ℕ)) iprop(outPts d (num i t) (hists g) ∗ ∃ fs, stageRow d i t.val fs))

/-- The credit of one sending. -/
def credit : ℕ := (outAt i outV (lp 0)).view.dmaCredit

/-- The cells the task waits on. -/
abbrev fetchedSem : SemLoc sig := .dma cc0_scoped0.sem
abbrev sentSem : SemLoc sig := .dma cc0_scratch3.sem

/-- What a strip's turn uses and hands back. -/
def Turn (O : CellTallies nD τ sig (HIx 1)) (W : Waits sig (HIx 1)) : sProp (MT nD τ sig (HIx 1) (Elt F) ℕ UU ℕ) :=
  iprop((∃ f, bufPts d i f) ∗ (∃ A : Fin 16 → ℕ → F .f32, ⌜Clean A⌝ ∗ histPts d i (lay A)) ∗ semVal (me d i, fetchedSem) 0
    ∗ ∃ W', ⌜∀ p ∈ W', p ∈ W ∨ p.2 = none⌝ ∗ owes (me d i) O W')

/-- One strip's turn. -/
theorem wp_strip (g : S224x8x112.Idx → F .f32) (hg : ∀ x, (binOf (g x)).toNat < 256) (t : Fin 7) (f₅ : S3136x256.Idx → F .f32)
    (O : CellTallies nD τ sig (HIx 1)) (W : Waits sig (HIx 1)) :
    iprop(Transfers.MayWaits (me d i) (default : HIx 1) O ∗ Turn d i O W ∗ inPts d (num i t) g ∗ outPts d (num i t) f₅ ∗ (∃ f, stageRow d i t.val f)
        ∗ Transfers.Batch countersEmb (me d i) sentSem (default : HIx 1) (credit i) (Sent d i g) t.val 0)
      ⊢ iprop((iprop(Turn d i O W ∗ inPts d (num i t) g
            ∗ Transfers.Batch countersEmb (me d i) sentSem (default : HIx 1) (credit i) (Sent d i g) (t.val + 1) 0)
        -∗ wp frame (wpE (defs₀ (F := F)) 𝒱₀ (me d i) none) Set.univ (k ⟨⟩) Q)
      -∗ wp frame (wpE (defs₀ (F := F)) 𝒱₀ (me d i) none) Set.univ
          (strip i inV outV bufV (Memref.isWhole_whole _) stageV histV cc0_scratch3 cc0_scoped0 (lp t) >>= k) Q) := by
  have e : (strip i inV outV bufV (Memref.isWhole_whole _) stageV histV cc0_scratch3 cc0_scoped0 (lp t) >>= k : Prog (Eff F i) α)
      = .op (.enqueueDmaAs (stripAt i inV (lp t)) (.here bufV) .same (.dma cc0_scoped0.sem) ((View.wordExact_bits rfl).reshape _ _) (Memref.isWhole_whole _).wordExact ⟨Or.inl rfl, trivial⟩) fun _ =>
        .op (.waitDma2 cc0_scoped0.sem (stripAt i inV (lp t)) bufV ((View.wordExact_bits rfl).reshape _ _) (Memref.isWhole_whole _).wordExact) fun _ =>
        (Scf.Loop.for k0_t3_loop k0_t3_ok ⟨⟩ fun r _ =>
          row i bufV histV segs (col 0#32) (col 1#32) (col 2#32) (col 3#32) (col 4#32) (col 5#32) (col 6#32) (col 7#32) (broadcast S16 (Scf.iv 0#32 1#32 r))) >>= fun _ =>
        (Scf.Loop.for k0_t4_loop k0_t4_ok ⟨⟩ fun p _ => takes i stageV histV (lp t) p [0, 1, 2, 3, 4, 5, 6, 7, 8, 9, 10, 11, 12, 13, 14, 15]) >>= fun _ =>
        .op (.enqueueDmaAs (stageAt stageV (lp t)) (.here (outAt i outV (lp t))) .same (.dma cc0_scratch3.sem) ((View.wordExact_bits rfl).reshape _ _) (View.wordExact_bits rfl) ⟨Or.inl rfl, trivial⟩) k := by
    unfold strip
    simp only [bind_assoc]
    rfl
  rw [e]
  unfold Turn
  iintro ⟨#Hmw, ⟨⟨%fb, Hb⟩, ⟨%A, %hA, Hh⟩, Hv, %W', %hW', HO⟩, Hin, Hout, ⟨%fst, Hst⟩, HB⟩ Hk
  -- the strip fetched
  ihave Hin := (Entails.of_eq (show (inPts d (num i t) g : sProp (MT nD τ sig (HIx 1) (Elt F) ℕ UU ℕ))
    = ((stripAt i inV (lp t)).view.loc (me d i) ↦[(stripAt i inV (lp t)).view.set]{fullShare} g) by rw [set_stripAt]; rfl)) $$ Hin
  iapply (Transfers.wp_dmaLocal countersEmb 𝒱₀ (me d i) none (src := stripAt i inV (lp t)) (dst := bufV) (Sd := Finset.univ)
    (default : HIx 1) (bufV).view.dmaCredit rfl (by decide +kernel) (Finset.subset_univ _)) $$ [Hin Hb Hv]
  · isplitl [Hin]
    · iexact Hin
    isplitl [Hb]
    · iexact Hb
    iexact Hv
  iintro Hfl
  iapply (Transfers.wp_waitLocalO countersEmb 𝒱₀ (me d i) none (srcw := stripAt i inV (lp t)) (dstw := bufV)
    (hsrc := (View.wordExact_bits rfl).reshape _ _) (hdst := (Memref.isWhole_whole _).wordExact) (default : HIx 1) (rfl : (bufV).view.dmaCredit = _)) $$ [Hfl HO]
  · isplitl [Hfl]
    · iexact Hfl
    isplitl [HO]
    · iexact HO
    iapply (Transfers.MayWaits.elim (SemLoc.dma cc0_scoped0.sem)) $$ Hmw
  iintro ⟨⟨Hb, Hin⟩, Hv, HO⟩
  have hw : (bufV).view.write (Elt F) fb (ReadAs.same.apply ((stripAt i inV (lp t)).view.read (Elt F) g)) Finset.univ = stripOf g (num i t) := by
    refine (View.write_whole_univ (cc0_scratch0 : Ref sig .scVector) _ _).trans ?_
    exact read_stripAt i t g
  rw [hw]
  -- its rows put
  ihave HH := (show iprop(bufPts d i (stripOf g (num i t)) ∗ histPts d i (lay A)) ⊢ iprop(bufPts d i (stripOf g (num i t)) ∗ histPts d i (lay A)) from .rfl) $$ [Hb Hh]
  · isplitl [Hb]
    · iexact Hb
    · iexact Hh
  iapply (wp_rows d i (stripOf g (num i t)) (fun x => hg _) A) $$ HH
  iintro ⟨Hb, Hh⟩
  -- its patches read out
  ihave HH := (show iprop(histPts d i (lay fun l k => rowsF (stripOf g (num i t)) l k 8 (A l k)) ∗ stageRow d i (lp t).val fst)
    ⊢ iprop(histPts d i (lay fun l k => rowsF (stripOf g (num i t)) l k 8 (A l k)) ∗ stageRow d i (lp t).val fst) from .rfl) $$ [Hh Hst]
  · isplitl [Hh]
    · iexact Hh
    · iexact Hst
  iapply (wp_reads d i (lp t) _ fst) $$ HH
  iintro ⟨Hh, ⟨%fs, %hfs, Hst⟩⟩
  -- its histograms sent off
  have hfs' : ∀ (y : S7x14x256.Idx) (l : Fin 16), (y 0).val = t.val → l.val = (y 1).val → fs y = rowsF (stripOf g (num i t)) l (16 + (y 2).val) 8 zero := by
    intro y l hy hl
    have h1 : (y 1).val < 14 := (y 1).isLt
    have h2 : (y 2).val < 256 := (y 2).isLt
    rw [hfs y l hy hl, hA l _ (by omega) (by omega) (by omega)]
  ihave Hst := (Entails.of_eq (show (stageRow d i (lp t).val fs : sProp (MT nD τ sig (HIx 1) (Elt F) ℕ UU ℕ))
    = ((stageAt stageV (lp t)).view.loc (me d i) ↦[(stageAt stageV (lp t)).view.set]{fullShare} fs) by rw [set_stageAt]; rfl)) $$ Hst
  ihave Hout := (Entails.of_eq (show (outPts d (num i t) f₅ : sProp (MT nD τ sig (HIx 1) (Elt F) ℕ UU ℕ))
    = ((outAt i outV (lp t)).view.loc (me d i) ↦[outSet (num i t).val]{fullShare} f₅) from rfl)) $$ Hout
  iapply (Transfers.wp_dmaBatch countersEmb 𝒱₀ (me d i) none (src := stageAt stageV (lp t)) (dst := outAt i outV (lp t)) (sm := .dma cc0_scratch3.sem)
    (Sd := outSet (num i t).val) (q := fullShare) (fs := fs) (fd := f₅) (D := Sent d i g) (j := t.val) (u := 0)
    (default : HIx 1) (credit i) rfl (subset_of_eq (set_outAt i t)) t.isLt (Nat.zero_le _) (by
      have hws := pointsTo_congr (Ix := HIx 1) (Name := ℕ) (U := UU) (Lvl := ℕ) (ℓ := (outAt i outV (lp t)).view.loc (me d i)) (q := fullShare)
        (fun y hy => write_outAt i t g f₅ fs hfs' y hy)
      unfold Sent
      iintro ⟨Ho, Hs⟩
      isplitl [Ho]
      · ihave Ho := (Entails.of_eq hws) $$ Ho
        iexact Ho
      · iexists fs
        ihave Hs := (Entails.of_eq (show ((stageAt stageV (lp t)).view.loc (me d i) ↦[(stageAt stageV (lp t)).view.set]{fullShare} fs)
          = (stageRow d i (lp t).val fs : sProp (MT nD τ sig (HIx 1) (Elt F) ℕ UU ℕ)) by rw [set_stageAt]; rfl)) $$ Hs
        iexact Hs)) $$ [Hst Hout HB]
  · isplitl [Hst]
    · iexact Hst
    isplitl [Hout]
    · iexact Hout
    iexact HB
  iintro HB
  iapply Hk
  isplitr [Hin HB]
  · isplitl [Hb]
    · iexists _; iexact Hb
    isplitl [Hh]
    · iexact Hh
    isplitl [Hv]
    · iexact Hv
    iexists _
    isplitr
    swap
    · iexact HO
    ipureintro
    intro p hp
    rcases Finset.mem_insert.mp hp with hp | hp
    · exact .inr (hp ▸ rfl)
    · exact hW' p hp
  isplitl [Hin]
  · ihave Hin := (Entails.of_eq (show ((stripAt i inV (lp t)).view.loc (me d i) ↦[(stripAt i inV (lp t)).view.set]{fullShare} g)
      = (inPts d (num i t) g : sProp (MT nD τ sig (HIx 1) (Elt F) ℕ UU ℕ)) by rw [set_stripAt]; rfl)) $$ Hin
    iexact Hin
  · iexact HB

end Cert.Proof.Hist

end
-- ==== Proof.TileRun.lean ====
/-
  The task of a tile as a rule: from its seven strips and their parts of the result to the histograms in those parts.
-/
module

public import proofs.«01_k».proof.Proof.Task

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable (d : Dev nD) (i : grid0.Coords)
variable {α : Type} {Q : α → sProp (MT nD τ sig (HIx 1) (Elt F) ℕ UU ℕ)} {k : PUnit → Prog (Eff F i) α}

local notation "𝕄" => MT nD τ sig (HIx 1) (Elt F) ℕ UU ℕ

/-! ## The stage, its seven rows -/

theorem stage_disjoint : ∀ t ∈ (Finset.univ : Finset (Fin 7)), ∀ t' ∈ (Finset.univ : Finset (Fin 7)), t ≠ t' → Disjoint (stageSet t.val) (stageSet t'.val) := by
  intro t _ t' _ h
  refine Finset.disjoint_left.mpr fun y hy hy' => h (Fin.ext ?_)
  exact (Finset.mem_filter.mp hy).2.symm.trans (Finset.mem_filter.mp hy').2

theorem stage_cover : (Finset.univ : Finset (Fin 7)).biUnion (fun t => stageSet t.val) = Finset.univ := by
  refine Finset.eq_univ_iff_forall.mpr fun y => Finset.mem_biUnion.mpr ⟨⟨(y 0).val, (y 0).isLt⟩, Finset.mem_univ _, ?_⟩
  exact Finset.mem_filter.mpr ⟨Finset.mem_univ _, rfl⟩

theorem stage_rows (f : S7x14x256.Idx → F .f32) : (stagePts d i f : sProp 𝕄) = bigSep Finset.univ fun t : Fin 7 => stageRow d i t.val f := by
  unfold stageRow stagePts
  rw [← pointsTo_biUnion Finset.univ (ℓ := (me d i).loc cc0_scratch1) (fun t : Fin 7 => stageSet t.val) stage_disjoint, stage_cover]

theorem stage_split : iprop(∃ f, stagePts d i f) ⊢ (bigSep Finset.univ fun t : Fin 7 => iprop(∃ f, stageRow d i t.val f) : sProp 𝕄) := by
  have h1 (f : S7x14x256.Idx → F .f32) (t : Fin 7) : (stageRow d i t.val f : sProp 𝕄) ⊢ iprop(∃ f, stageRow d i t.val f) := by
    iintro H
    iexists f
    iexact H
  iintro ⟨%f, H⟩
  ihave H := (Entails.of_eq (stage_rows d i f)) $$ H
  have hm : (bigSep Finset.univ fun t : Fin 7 => stageRow d i t.val f) ⊢ (bigSep Finset.univ fun t : Fin 7 => iprop(∃ f, stageRow d i t.val f) : sProp 𝕄) :=
    bigSep_mono fun t _ => h1 f t
  iapply hm $$ H

theorem stage_join : (bigSep Finset.univ fun t : Fin 7 => iprop(∃ f, stageRow d i t.val f)) ⊢ (iprop(∃ f, stagePts d i f) : sProp 𝕄) := by
  haveI : Nonempty (S7x14x256.Idx → F .f32) := ⟨fun _ => zero⟩
  refine (bigSep_exists_pi Finset.univ (fun (t : Fin 7) (f : S7x14x256.Idx → F .f32) => (stageRow d i t.val f : sProp 𝕄))).trans ?_
  iintro ⟨%fs, H⟩
  ihave H' := (pointsTo_biUnion_join (ℓ := (me d i).loc cc0_scratch1) (q := fullShare) (Val := Elt F) Finset.univ (fun t : Fin 7 => stageSet t.val) fs (fs 0) stage_disjoint) $$ H
  icases H' with ⟨%g, -, Hg⟩
  rw [stage_cover]
  iexists g; iexact Hg

/-! ## The strips' loop -/

/-- Where the strips' loop stands before strip `n`. -/
def Loop (g : S224x8x112.Idx → F .f32) (f₅ : S3136x256.Idx → F .f32) (O : CellTallies nD τ sig (HIx 1)) (W : Waits sig (HIx 1)) (n : ℕ) : sProp 𝕄 :=
  iprop(Transfers.MayWaits (me d i) (default : HIx 1) O ∗ Turn d i O W ∗ (bigSep Finset.univ fun t : Fin 7 => inPts d (num i t) g)
    ∗ (bigSep (Transfers.pending n) fun t : Fin 7 => iprop(outPts d (num i t) f₅ ∗ ∃ f, stageRow d i t.val f))
    ∗ Transfers.Batch countersEmb (me d i) sentSem (default : HIx 1) (credit i) (Sent d i g) n 0)

theorem wp_strips (g : S224x8x112.Idx → F .f32) (hg : ∀ x, (binOf (g x)).toNat < 256) (f₅ : S3136x256.Idx → F .f32)
    (O : CellTallies nD τ sig (HIx 1)) (W : Waits sig (HIx 1)) :
    Loop d i g f₅ O W 0
      ⊢ iprop((Loop d i g f₅ O W 7
        -∗ wp frame (wpE (defs₀ (F := F)) 𝒱₀ (me d i) none) Set.univ (k ⟨⟩) Q)
      -∗ wp frame (wpE (defs₀ (F := F)) 𝒱₀ (me d i) none) Set.univ
          ((Scf.Loop.for k0_t2_loop k0_t2_ok ⟨⟩ fun t _ => strip i inV outV bufV (Memref.isWhole_whole _) stageV histV cc0_scratch3 cc0_scoped0 t) >>= k) Q) := by
  iintro H Hk
  iapply (Scf.wp_for_bind frame (wpE (defs₀ (F := F)) 𝒱₀ (me d i) none) Set.univ _ _ _ k0_t2_ok ⟨⟩
    (fun t _ => strip i inV outV bufV (Memref.isWhole_whole _) stageV histV cc0_scratch3 cc0_scoped0 t)
    (fun n _ => Loop d i g f₅ O W n) (fun t _ => by
      refine wp_alone d i ?_
      have ht : t.val < 7 := lt_of_lt_of_eq t.isLt trips2
      unfold Loop
      rw [Transfers.bigSep_pending_step _ _ ht, SparseCore.bigSep_erase' (Finset.mem_univ (⟨t.val, ht⟩ : Fin 7)) (Φ := fun t : Fin 7 => inPts d (num i t) g)]
      iintro ⟨#Hmw, HT, ⟨Hin, Hins⟩, ⟨⟨Hout, Hst⟩, Houts⟩, HB⟩ Hk
      iapply (wp_strip d i g hg ⟨t.val, ht⟩ f₅ O W) $$ [HT Hin Hout Hst HB]
      · isplitr; · iexact Hmw
        isplitl [HT]; · iexact HT
        isplitl [Hin]; · iexact Hin
        isplitl [Hout]; · iexact Hout
        isplitl [Hst]; · iexact Hst
        iexact HB
      iintro ⟨HT, Hin, HB⟩
      iapply Hk
      isplitr; · iexact Hmw
      isplitl [HT]; · iexact HT
      isplitl [Hin Hins]
      · isplitl [Hin]; · iexact Hin
        iexact Hins
      isplitl [Houts]; · iexact Houts
      iexact HB)) $$ [H]
  · iexact H
  iintro %_ H
  iapply Hk
  have e : Scf.trips k0_t2_loop.lb k0_t2_loop.ub k0_t2_loop.st = 7 := trips2
  rw [e]
  iexact H

/-! ## The waits -/

theorem credit_pos : 0 < credit i := View.dmaCredit_pos _ (by decide)

theorem waits_cons (t : Fin 7) (l : List (Fin 7)) : (waits i outV stageV cc0_scratch3 (t :: l) >>= k : Prog (Eff F i) α)
    = .op (.waitDma2 cc0_scratch3.sem ((stageV.slice (Rect.unit (s := S7x14x256) ![t.val, 0, 0] S1x14x256.size (stageRow_inb t)) (fun _ => rfl)).squeeze S14x256 squeezes_S1x14x256_S14x256)
      (outV.slice (Rect.unit (s := S3136x256) (k0_off22 i (BitVec.ofNat 32 (14 * t.val))) S14x256.size (k0_off22_inb i t)) (fun _ => rfl))
      ((View.wordExact_bits rfl).reshape _ _) (View.wordExact_bits rfl)) (fun _ => waits i outV stageV cc0_scratch3 l >>= k) := rfl

/-- What the waits use and hand back. -/
def Held (O : CellTallies nD τ sig (HIx 1)) (W : Waits sig (HIx 1)) : sProp 𝕄 := iprop(∃ W', ⌜∀ p ∈ W', p ∈ W ∨ p.2 = none⌝ ∗ owes (me d i) O W')

theorem wp_wait (g : S224x8x112.Idx → F .f32) (O : CellTallies nD τ sig (HIx 1)) (W : Waits sig (HIx 1)) (t : Fin 7) (ht : t.val < 6) (l : List (Fin 7)) :
    iprop(Transfers.MayWaits (me d i) (default : HIx 1) O ∗ Held d i O W
        ∗ Transfers.Batch countersEmb (me d i) sentSem (default : HIx 1) (credit i) (Sent d i g) 7 (t.val * credit i))
      ⊢ iprop((iprop(Held d i O W ∗ Transfers.Batch countersEmb (me d i) sentSem (default : HIx 1) (credit i) (Sent d i g) 7 ((t.val + 1) * credit i))
        -∗ wp frame (wpE (defs₀ (F := F)) 𝒱₀ (me d i) none) Set.univ (waits i outV stageV cc0_scratch3 l >>= k) Q)
      -∗ wp frame (wpE (defs₀ (F := F)) 𝒱₀ (me d i) none) Set.univ (waits i outV stageV cc0_scratch3 (t :: l) >>= k) Q) := by
  rw [waits_cons]
  unfold Held
  iintro ⟨#Hmw, ⟨%W', %hW', HO⟩, HB⟩ Hk
  have hu : t.val * credit i + credit i < credit i * 7 := by
    have := credit_pos i
    nlinarith
  iapply (Transfers.wp_waitBatchO countersEmb 𝒱₀ (me d i) none
    (srcw := (stageV.slice (Rect.unit (s := S7x14x256) ![t.val, 0, 0] S1x14x256.size (stageRow_inb t)) (fun _ => rfl)).squeeze S14x256 squeezes_S1x14x256_S14x256)
    (dstw := outV.slice (Rect.unit (s := S3136x256) (k0_off22 i (BitVec.ofNat 32 (14 * t.val))) S14x256.size (k0_off22_inb i t)) (fun _ => rfl))
    (hsrc := (View.wordExact_bits rfl).reshape _ _) (hdst := View.wordExact_bits rfl)
    (default : HIx 1) (N := credit i) rfl hu) $$ [HO HB]
  · isplitl [HB]; · iexact HB
    isplitl [HO]; · iexact HO
    iapply (Transfers.MayWaits.elim (SemLoc.dma cc0_scratch3.sem)) $$ Hmw
  iintro ⟨HB, HO⟩
  iapply Hk
  isplitl [HO]
  · iexists _
    isplitr
    swap
    · iexact HO
    ipureintro
    intro p hp
    rcases Finset.mem_insert.mp hp with hp | hp
    · exact .inr (hp ▸ rfl)
    · exact hW' p hp
  · rw [Nat.succ_mul]
    iexact HB

theorem wp_wait_last (g : S224x8x112.Idx → F .f32) (O : CellTallies nD τ sig (HIx 1)) (W : Waits sig (HIx 1)) (l : List (Fin 7)) :
    iprop(Transfers.MayWaits (me d i) (default : HIx 1) O ∗ Held d i O W
        ∗ Transfers.Batch countersEmb (me d i) sentSem (default : HIx 1) (credit i) (Sent d i g) 7 (6 * credit i))
      ⊢ iprop((iprop(Held d i O W ∗ bigSep Finset.univ (Sent d i g) ∗ semVal (me d i, sentSem) 0)
        -∗ wp frame (wpE (defs₀ (F := F)) 𝒱₀ (me d i) none) Set.univ (waits i outV stageV cc0_scratch3 l >>= k) Q)
      -∗ wp frame (wpE (defs₀ (F := F)) 𝒱₀ (me d i) none) Set.univ (waits i outV stageV cc0_scratch3 (6 :: l) >>= k) Q) := by
  rw [waits_cons]
  unfold Held
  iintro ⟨#Hmw, ⟨%W', %hW', HO⟩, HB⟩ Hk
  have hu : 6 * credit i + credit i = credit i * 7 := by omega
  iapply (Transfers.wp_waitBatchLastO countersEmb 𝒱₀ (me d i) none
    (srcw := (stageV.slice (Rect.unit (s := S7x14x256) ![(6 : Fin 7).val, 0, 0] S1x14x256.size (stageRow_inb 6)) (fun _ => rfl)).squeeze S14x256 squeezes_S1x14x256_S14x256)
    (dstw := outV.slice (Rect.unit (s := S3136x256) (k0_off22 i (BitVec.ofNat 32 (14 * (6 : Fin 7).val))) S14x256.size (k0_off22_inb i 6)) (fun _ => rfl))
    (hsrc := (View.wordExact_bits rfl).reshape _ _) (hdst := View.wordExact_bits rfl)
    (default : HIx 1) (N := credit i) rfl (credit_pos i) hu) $$ [HO HB]
  · isplitl [HB]; · iexact HB
    isplitl [HO]; · iexact HO
    iapply (Transfers.MayWaits.elim (SemLoc.dma cc0_scratch3.sem)) $$ Hmw
  iintro ⟨HD, Hv, HO⟩
  iapply Hk
  isplitl [HO]
  · iexists _
    isplitr
    swap
    · iexact HO
    ipureintro
    intro p hp
    rcases Finset.mem_insert.mp hp with hp | hp
    · exact .inr (hp ▸ rfl)
    · exact hW' p hp
  isplitl [HD]; · iexact HD
  iexact Hv

/-! ## The task -/

/-- The strips and the parts of the result a tile is given, and gives back. -/
def given (g : S224x8x112.Idx → F .f32) (f : S3136x256.Idx → F .f32) : sProp 𝕄 :=
  bigSep Finset.univ fun t : Fin 7 => iprop(inPts d (num i t) g ∗ outPts d (num i t) f)

abbrev fetchedCell : GSem nD τ sig := (V d (cV i) (jV i), .dma cc0_scoped0.sem)
abbrev sentCell : GSem nD τ sig := (V d (cV i) (jV i), .dma cc0_scratch3.sem)

theorem ownSems0_V :
    (ownSems0 (V d (cV i) (jV i)) : sProp 𝕄)
      = iprop(semVal (fetchedCell d i) 0 ∗ semVal (sentCell d i) 0
          ∗ bigSep (((ownCells (V d (cV i) (jV i))).erase (fetchedCell d i)).erase (sentCell d i)) fun g => semVal g 0) := by
  unfold SparseCore.Cfg.ownSems0
  rw [SparseCore.bigSep_erase' ((mem_ownCells (g := fetchedCell d i)).mpr ⟨rfl, by
      show (SemLoc.dma cc0_scoped0.sem : SemLoc sig).isScoped .scVector = true; decide⟩),
    SparseCore.bigSep_erase' (Finset.mem_erase.mpr ⟨by simp [fetchedCell, sentCell]; decide, (mem_ownCells (g := sentCell d i)).mpr ⟨rfl, by
      show (SemLoc.dma cc0_scratch3.sem : SemLoc sig).isScoped .scVector = true; decide⟩⟩)]

/-- The three scratch buffers are among the subcore's own. -/
theorem ownBufs_V :
    (ownBufs (V d (cV i) (jV i)) : sProp 𝕄)
      = iprop((∃ f, (V d (cV i) (jV i)).loc cc0_scratch0 ↦{fullShare} f) ∗ (∃ f, (V d (cV i) (jV i)).loc cc0_scratch1 ↦{fullShare} f)
          ∗ (∃ f, (V d (cV i) (jV i)).loc cc0_scratch2 ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV i) (jV i)) (b := (Proc.scVector (cV i) (jV i)).devRef cc0_scratch2) rfl⟩⟩)]

set_option maxHeartbeats 1000000 in
/-- The task on vector subcore `i`. -/
theorem tile_body (hF : (K (F := F)).Facts) (g : S224x8x112.Idx → F .f32) (hg : ∀ x, (binOf (g x)).toNat < 256) (f₅ : S3136x256.Idx → F .f32)
    (O : CellTallies nD τ sig (HIx 1)) (W : Waits sig (HIx 1)) (hO : ∀ g, O g none = 0) :
    iprop(levAts (K (F := F)).L (K (F := F)).lev ∗ emp ∗ given d i g f₅
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ
          (cc0_k i inV (Memref.isWhole_whole _) outV (Memref.isWhole_whole _) bufV (Memref.isWhole_whole _) stageV (Memref.isWhole_whole _)
            histV (Memref.isWhole_whole _) cc0_scratch3 cc0_scoped0)
          fun _ => iprop(given d i g (hists g) ∗ scopedBufs (V d (cV i) (jV i)) ∗ scopedSems0 (V d (cV i) (jV i))
            ∗ ∃ W', ⌜∀ p ∈ W', p ∈ W ∨ p.2 = none⌝ ∗ owes (V d (cV i) (jV i)) O W') := by
  rw [tile_eq, (K (F := F)).scopedBufs_V hF d (cV i) (jV i), SparseCore.Cfg.scopedSems0_V (Val := Elt F) d (cV i) (jV i), ownSems0_V, ownBufs_V]
  have e : (tile i inV outV bufV (Memref.isWhole_whole _) stageV histV cc0_scratch3 cc0_scoped0 : Prog (Eff F i) PUnit)
      = (Scf.Loop.for k0_t1_loop k0_t1_ok ⟨⟩ fun t _ => clear i histV t) >>= fun _ =>
        (Scf.Loop.for k0_t2_loop k0_t2_ok ⟨⟩ fun t _ => strip i inV outV bufV (Memref.isWhole_whole _) stageV histV cc0_scratch3 cc0_scoped0 t) >>= fun _ =>
        waits i outV stageV cc0_scratch3 [0, 1, 2, 3, 4, 5, 6] >>= pure := by
    unfold tile
    rw [bind_pure]
  rw [e]
  unfold given
  rw [bigSep_sep', bigSep_sep']
  iintro ⟨#Hlv, -, ⟨Hin, Hout⟩, ⟨⟨%fb, Hb⟩, Hst, Hh, Hbufs⟩, ⟨Hv, Hs, Hsems⟩, HO⟩
  ihave #Hmw := (show levAts (K (F := F)).L (K (F := F)).lev ⊢ Transfers.MayWaits (V d (cV i) (jV i)) (default : HIx 1) O from
    (K (F := F)).mayWaits_none (thr := V d (cV i) (jV i)) hO) $$ Hlv
  -- the histogram cleared
  iapply (wp_clears d i) $$ [Hh]
  · iexact Hh
  iintro Hh
  -- the sendings' batch opened
  ihave Hst := (stage_split d i) $$ Hst
  imod (Transfers.batch_alloc' countersEmb (me d i) (sm := sentSem) (default : HIx 1) (credit i) (Sent d i g)) $$ Hs with HB
  -- the strips
  iapply (wp_strips d i g hg f₅ O W) $$ [Hb Hh Hv HO Hin Hout Hst HB]
  · unfold Loop Turn
    isplitr; · iexact Hmw
    isplitl [Hb Hh Hv HO]
    · isplitl [Hb]; · iexists fb; iexact Hb
      isplitl [Hh]
      · iexists _
        isplitr
        swap
        · iexact Hh
        ipureintro
        exact fun _ _ _ _ _ => rfl
      isplitl [Hv]; · iexact Hv
      iexists W
      isplitr
      · ipureintro; exact fun p hp => .inl hp
      iexact HO
    isplitl [Hin]; · iexact Hin
    isplitl [Hout Hst]
    · rw [Transfers.pending_zero, bigSep_sep']
      isplitl [Hout]; · iexact Hout
      iexact Hst
    iexact HB
  unfold Loop Turn
  iintro ⟨-, ⟨Hb, ⟨%A, -, Hh⟩, Hv, HO⟩, Hin, -, HB⟩
  ihave HB := (Entails.of_eq (show (Transfers.Batch countersEmb (me d i) sentSem (default : HIx 1) (credit i) (Sent d i g) 7 0 : sProp 𝕄)
    = Transfers.Batch countersEmb (me d i) sentSem (default : HIx 1) (credit i) (Sent d i g) 7 ((0 : Fin 7).val * credit i) by
      rw [show (0 : Fin 7).val * credit i = 0 from Nat.zero_mul _])) $$ HB
  -- the waits
  iapply (wp_wait d i g O W 0 (by decide)) $$ [HO HB]
  · isplitr; · iexact Hmw
    isplitl [HO]; · unfold Held; iexact HO
    iexact HB
  iintro ⟨HO, HB⟩
  iapply (wp_wait d i g O W 1 (by decide)) $$ [HO HB]
  · isplitr; · iexact Hmw
    isplitl [HO]; · iexact HO
    iexact HB
  iintro ⟨HO, HB⟩
  iapply (wp_wait d i g O W 2 (by decide)) $$ [HO HB]
  · isplitr; · iexact Hmw
    isplitl [HO]; · iexact HO
    iexact HB
  iintro ⟨HO, HB⟩
  iapply (wp_wait d i g O W 3 (by decide)) $$ [HO HB]
  · isplitr; · iexact Hmw
    isplitl [HO]; · iexact HO
    iexact HB
  iintro ⟨HO, HB⟩
  iapply (wp_wait d i g O W 4 (by decide)) $$ [HO HB]
  · isplitr; · iexact Hmw
    isplitl [HO]; · iexact HO
    iexact HB
  iintro ⟨HO, HB⟩
  iapply (wp_wait d i g O W 5 (by decide)) $$ [HO HB]
  · isplitr; · iexact Hmw
    isplitl [HO]; · iexact HO
    iexact HB
  iintro ⟨HO, HB⟩
  iapply (wp_wait_last d i g O W) $$ [HO HB]
  · isplitr; · iexact Hmw
    isplitl [HO]; · iexact HO
    iexact HB
  unfold Held
  iintro ⟨HO, HD, Hs⟩
  ihave HD := (Entails.of_eq (show (bigSep Finset.univ (Sent d i g) : sProp 𝕄)
    = iprop((bigSep Finset.univ fun t : Fin 7 => outPts d (num i t) (hists g)) ∗ bigSep Finset.univ fun t : Fin 7 => iprop(∃ fs, stageRow d i t.val fs)) from
      bigSep_sep' _ _ _)) $$ HD
  icases HD with ⟨Hout, Hst⟩
  ihave Hst := (stage_join d i) $$ Hst
  rw [show (waits i outV stageV cc0_scratch3 [] >>= pure : Prog (Eff F i) PUnit) = pure ⟨⟩ from rfl, wp_pure]
  imodintro
  isplitl [Hin Hout]
  · isplitl [Hin]; · iexact Hin
    iexact Hout
  isplitl [Hb Hst Hh Hbufs]
  · isplitl [Hb]; · iexact Hb
    isplitl [Hst]; · iexact Hst
    isplitl [Hh]; · iexists _; iexact Hh
    iexact Hbufs
  isplitl [Hv Hs Hsems]
  · isplitl [Hv]; · iexact Hv
    isplitl [Hs]; · iexact Hs
    iexact Hsems
  iexact HO

end Cert.Proof.Hist

end
-- ==== Proof.Launch.lean ====
/-
  The SparseCore call's side of the launch: what each tile is given and brings back, that each tile's task does so, and
  that the two arrays are the sum of what the tiles are given.
-/
module

public import proofs.«01_k».proof.Proof.TileRun
public import proofs.«01_k».proof.Proof.Gen.KernelIdeal.Launch

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The depth channel cut into strips of eight rows and half the columns. -/
def strips (x : S2x2x4x224x224.Idx → F .f32) : S224x8x112.Idx → F .f32 :=
  shapeCast S224x8x112 (transpose S4x28x2x8x112 [0, 1, 3, 2, 4]
    (shapeCast S4x28x8x2x112 (shapeCast S2x2x224x224
      (extractStridedSlice S2x2x1x224x224 ![0, 0, 3, 0, 0] x slices_S2x2x4x224x224_S2x2x1x224x224_0_0_3_0_0)
      shapeCasts_S2x2x1x224x224_S2x2x224x224) shapeCasts_S2x2x224x224_S4x28x8x2x112)
    transposes_S4x28x8x2x112_S4x28x2x8x112_0_1_3_2_4) shapeCasts_S4x28x2x8x112_S224x8x112

/-- The strips of the launch memory's image, and what the histograms' array holds at launch. -/
abbrev given4 (d : Dev nD) : S224x8x112.Idx → F .f32 := strips (m ((SparseCore.T d).loc main_arg1))
abbrev given5 (d : Dev nD) : S3136x256.Idx → F .f32 := m ((SparseCore.T d).loc main_v5)

/-- What the proof asks of the launch memory: every pixel falls in one of the 256 bins. -/
def InRange : Prop := ∀ (d : Dev nD) (x : S224x8x112.Idx), (binOf (given4 m d x)).toNat < 256

/-! ## What a tile is given -/

def coordsV (c : Fin 2) (s : Fin 16) : grid0.Coords :=
  fun | 0 => c | 1 => s | ⟨_ + 2, h⟩ => absurd h (Nat.not_lt.2 (Nat.le_add_left _ _))

/-- Every tile of core `c` given its strips and its part of the result at `f`. -/
def givenCore (d : Dev nD) (c : Fin 2) (g : S224x8x112.Idx → F .f32) (f : S3136x256.Idx → F .f32) : sProp 𝕄 :=
  bigSep Finset.univ fun s : Fin 16 => given d (coordsV c s) g f

/-- The call gives each core its tiles' strips and parts of the result, and each tile its own; they come back with the
    histograms in the result. -/
def P : (K (F := F)).Pay (nD := nD) (Val := Elt F) (Name := ℕ) (U := UU) where
  st := fun q d c => match q with | 0 => givenCore d (Fin.cast nCore_zero c) (given4 m d) (given5 m d)
  dn := fun q d c => match q with | 0 => givenCore d (Fin.cast nCore_zero c) (given4 m d) (hists (given4 m d))
  go := fun q d c s => match q with | 0 => given d (coordsV (Fin.cast nCore_zero c) (Fin.cast nSub_zero s)) (given4 m d) (given5 m d)
  td := fun q d c s => match q with | 0 => given d (coordsV (Fin.cast nCore_zero c) (Fin.cast nSub_zero s)) (given4 m d) (hists (given4 m d))
  x := fun _ _ => iprop(emp)

instance given_storable (d : Dev nD) (i : grid0.Coords) (g : S224x8x112.Idx → F .f32) (f : S3136x256.Idx → F .f32) :
    BI.Storable (upEmb : UEmb _ 𝕄) (given d i g f) := by unfold given; infer_instance
instance givenCore_storable (d : Dev nD) (c : Fin 2) (g : S224x8x112.Idx → F .f32) (f : S3136x256.Idx → F .f32) :
    BI.Storable (upEmb : UEmb _ 𝕄) (givenCore d c g f) := by unfold givenCore; infer_instance

instance P_storable : (P (F := F) m).IsStorable where
  st q d c := match q with | 0 => givenCore_storable d c (given4 m d) (given5 m d)
  dn q d c := match q with | 0 => givenCore_storable d c (given4 m d) (hists (given4 m d))
  go q d c s := match q with | 0 => given_storable d (coordsV (Fin.cast nCore_zero c) (Fin.cast nSub_zero s)) (given4 m d) (given5 m d)
  td q d c s := match q with | 0 => given_storable d (coordsV (Fin.cast nCore_zero c) (Fin.cast nSub_zero s)) (given4 m d) (hists (given4 m d))

/-! ## The tile's obligation -/

theorem defs₀_vector (c : Fin τ.nSC) (s : Fin τ.nSub) :
    defs₀ (F := F) (.scVector c s) 0 ()
      = SparseCore.onTile hcore0 hsub0 (fun c s => cc0_k (coordsV c s) inV (Memref.isWhole_whole _) outV (Memref.isWhole_whole _) bufV (Memref.isWhole_whole _)
          stageV (Memref.isWhole_whole _) histV (Memref.isWhole_whole _) cc0_scratch3 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hr : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (given4 m d) (hr d) (given5 m d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c₀
  have h₁ := bigSep_tasks (F := F) fun s => given d (coordsV (Fin.cast nCore_zero c₀) s) (given4 m d) (given5 m d)
  have h₂ := bigSep_tasks (F := F) fun s => given d (coordsV (Fin.cast nCore_zero c₀) s) (given4 m d) (hists (given4 m d))
  show givenCore d (Fin.cast nCore_zero c₀) (given4 m d) (given5 m d) ⊢ |={Set.univ}=> iprop(
      (bigSep Finset.univ fun i : Fin ((K (F := F)).nSub 0) => given d (coordsV (Fin.cast nCore_zero c₀) (Fin.cast nSub_zero i)) (given4 m d) (given5 m d))
      ∗ ((bigSep Finset.univ fun i : Fin ((K (F := F)).nSub 0) => given d (coordsV (Fin.cast nCore_zero c₀) (Fin.cast nSub_zero i)) (given4 m d) (hists (given4 m d)))
          -∗ givenCore d (Fin.cast nCore_zero c₀) (given4 m d) (hists (given4 m d))))
  rw [h₁, h₂]; unfold givenCore
  iintro H; imodintro
  isplitl [H]; · iexact H
  iintro H; iexact H

/-! ## The arrays are the tiles' parts -/

/-- Strip `n`'s tile and its number there. -/
abbrev Turns : Type := Fin 2 × Fin 16 × Fin 7
def numOf (p : Turns) : Fin 224 := num (coordsV p.1 p.2.1) p.2.2

theorem numOf_val (p : Turns) : (numOf p).val = 7 * (2 * p.2.1.val + p.1.val) + p.2.2.val := rfl

theorem numOf_inj (p q : Turns) (h : (numOf p).val = (numOf q).val) : p = q := by
  obtain ⟨⟨a, ha⟩, ⟨b, hb⟩, ⟨c, hc⟩⟩ := p
  obtain ⟨⟨a', ha'⟩, ⟨b', hb'⟩, ⟨c', hc'⟩⟩ := q
  simp only [numOf_val] at h
  simp only [Prod.mk.injEq, Fin.mk.injEq]
  omega

theorem numOf_surj (n : ℕ) (h : n < 224) : ∃ p : Turns, (numOf p).val = n :=
  ⟨(⟨n / 7 % 2, by omega⟩, ⟨n / 14, by omega⟩, ⟨n % 7, by omega⟩), by simp only [numOf_val]; omega⟩

/-- Parts of an array told apart by a number below 224 are the array. -/
theorem parts {ℓ : Loc nD τ sig} (S : ℕ → Finset ℓ.2.ty.Idx) (N : ℓ.2.ty.Idx → ℕ) (hS : ∀ n y, y ∈ S n ↔ N y = n) (hN : ∀ y, N y < 224)
    (f : Buf (Elt F) ℓ) :
    (ℓ ↦{fullShare} f : sProp 𝕄)
      = bigSep Finset.univ fun c : Fin 2 => bigSep Finset.univ fun s : Fin 16 => bigSep Finset.univ fun t : Fin 7 =>
          ℓ ↦[S (num (coordsV c s) t).val]{fullShare} f := by
  have hd : ∀ p ∈ (Finset.univ : Finset Turns), ∀ q ∈ (Finset.univ : Finset Turns), p ≠ q → Disjoint (S (numOf p).val) (S (numOf q).val) :=
    fun p _ q _ hpq => Finset.disjoint_left.mpr fun y hp hq => hpq (numOf_inj p q (((hS _ y).mp hp).symm.trans ((hS _ y).mp hq)))
  have hc : (Finset.univ : Finset Turns).biUnion (fun p => S (numOf p).val) = Finset.univ :=
    Finset.eq_univ_iff_forall.mpr fun y => by
      obtain ⟨p, hp⟩ := numOf_surj (N y) (hN y)
      exact Finset.mem_biUnion.mpr ⟨p, Finset.mem_univ _, (hS _ y).mpr hp.symm⟩
  have e : (ℓ ↦{fullShare} f : sProp 𝕄) = bigSep Finset.univ fun p : Turns => ℓ ↦[S (numOf p).val]{fullShare} f := by
    rw [← pointsTo_biUnion Finset.univ (ℓ := ℓ) (fun p : Turns => S (numOf p).val) hd, hc]
  rw [e, bigSep_univ_prod]
  exact bigSep_congr fun c _ => bigSep_univ_prod _

/-- The strips' array and the result, each whole, are what the tiles are given. -/
theorem given_all (d : Dev nD) (g : S224x8x112.Idx → F .f32) (f : S3136x256.Idx → F .f32) :
    (bigSep Finset.univ fun c : Fin 2 => givenCore d c g f)
      = (iprop(((SparseCore.T d).loc main_v4 ↦{fullShare} g) ∗ ((SparseCore.T d).loc main_v5 ↦{fullShare} f)) : sProp 𝕄) := by
  rw [parts (F := F) (ℓ := (SparseCore.T d).loc main_v4) inSet (fun y => (y 0).val) (fun n y => by simp [inSet]) (fun y => (y 0).isLt) g,
    parts (F := F) (ℓ := (SparseCore.T d).loc main_v5) outSet (fun y => (y 0).val / 14) (fun n y => by simp [outSet])
      (fun y => by have h : (y 0).val < 3136 := (y 0).isLt; omega) f, ← bigSep_sep']
  refine bigSep_congr fun c _ => ?_
  unfold givenCore; rw [← bigSep_sep']
  refine bigSep_congr fun s _ => ?_
  unfold given; rw [← bigSep_sep']

end Cert.Proof.Hist

end
-- ==== Proof.Region.lean ====
/-
  The TensorCore's region: the histograms fetched whole, every row's entropy, written back whole.
-/
module

public import proofs.«01_k».proof.Proof.Launch
public import Idealize.ShloMosaic.Lib.Pipeline.RegionsLoop
public import Idealize.ShloMosaic.Lib.Pipeline.Frame
public import Idealize.ShloMosaic.Lib.Pipeline.Value
public import Idealize.ShloMosaic.Lib.Exec

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation ucRefs)

variable {F : FTy → Type} [FloatOps F] [Named F]

local notation "𝕄" => MT nD τ sig (HIx 1) (Elt F) ℕ UU ℕ

/-! ## The body -/

/-- The histograms as frequencies, each row's over its sum. -/
def freqs (h : FVec F S3136x256 .f32) : FVec F S3136x256 .f32 :=
  mulf (shapeCast S3136x256 h shapeCasts_S3136x256_S3136x256) (broadcast S3136x256 (Scalar.ofBits .f32 0x3C800000#32))
def normed (h : FVec F S3136x256 .f32) : FVec F S3136x256 .f32 :=
  divf (freqs h) (broadcastTo S3136x256 (addf (shapeCast S3136x1 (multiReduction .add [1] S3136 (freqs h) 0x00000000#32 reduces_S3136x256_S3136 (.inl rfl) rfl)
    shapeCasts_S3136_S3136x1) (broadcast S3136x1 (Scalar.ofBits .f32 0x2EDBE6FF#32))) broadcasts_S3136x1_S3136x256)

/-- Every row's entropy. -/
def entropy (h : FVec F S3136x256 .f32) : FVec F S3136x1 .f32 :=
  subf (broadcast S3136x1 (Scalar.ofBits .f32 0x00000000#32)) (shapeCast S3136x1 (multiReduction .add [1] S3136
    (mulf (normed h) (log (addf (normed h) (broadcast S3136x256 (Scalar.ofBits .f32 0x2EDBE6FF#32))))) 0x00000000#32 reduces_S3136x256_S3136 (.inl rfl) rfl)
    shapeCasts_S3136_S3136x1)

/-- A memref's buffer held whole by the TensorCore. -/
abbrev heldAt (c : Dev nD) {sp : Space} {σ : Shape} {e : EltTy} (M : Memref sig .tc sp σ e) (f : Buf (Elt F) (M.view.loc (c.tc : Thread nD τ))) : sProp 𝕄 :=
  M.view.loc (c.tc : Thread nD τ) ↦{fullShare} f

/-- The body: two loads, the second's value unused, and the entropies stored. -/
theorem body_eq (A : Memref sig .tc .vmem S3136x256 .f32) (hA : A.IsWhole) (B : Memref sig .tc .vmem S3136x1 .f32) (hB : B.IsWhole) :
    cc1_body (F := F) A hA B hB = (do
      let h : Vec F S3136x256 .f32 ← Prog.lift (.load A (Rect.unit (s := S3136x256) ![0, 0] S3136x256.size inb_S3136x256_S3136x256_0_0).toLoadRect (View.loadsAt_vmem h_S3136x256))
      let _ : Vec F S3136x1 .f32 ← Prog.lift (.load B (Rect.unit (s := S3136x1) ![0, 0] S3136x1.size inb_S3136x1_S3136x1_0_0).toLoadRect (View.loadsAt_vmem h_S3136x1))
      Prog.lift (.store B (Rect.unit (s := S3136x1) ![0, 0] S3136x1.size inb_S3136x1_S3136x1_0_0) (entropy h) Finset.univ (View.stores_vmem_bits_univ h_S3136x1 rfl) (.inl rfl))
      pure ⟨⟩) := rfl

theorem body_run (c : Dev nD) (h : S3136x256.Idx → F .f32) (f : S3136x1.Idx → F .f32) (Q : PUnit → sProp 𝕄) :
    iprop(heldAt c (Memref.whole cc1_stg0_0) h ∗ heldAt c (Memref.whole cc1_stg1_0) f ∗ (iprop(heldAt c (Memref.whole cc1_stg0_0) h ∗ heldAt c (Memref.whole cc1_stg1_0) (entropy h)) -∗ Q ⟨⟩))
    ⊢ wp frame (wpE (defs₀ (F := F)) 𝒱₀ (c.tc : Thread nD τ) none) Set.univ
        (cc1_body (Memref.whole cc1_stg0_0) (Memref.isWhole_whole _) (Memref.whole cc1_stg1_0) (Memref.isWhole_whole _)) Q := by
  rw [body_eq]
  iintro ⟨H0, H1, Hk⟩
  sl_exec!
  sl_step
  iapply Hk
  isplitl [H0]; · iexact H0
  have hr : View.readAt (Elt F) (Memref.whole cc1_stg0_0).view (Rect.unit (s := S3136x256) ![0, 0] S3136x256.size inb_S3136x256_S3136x256_0_0).toLoadRect h = h :=
    (View.readAt_full _ _ _).trans (View.read_whole _ _)
  have hw : (Memref.whole cc1_stg1_0).view.writes (Elt F) (Memref.whole cc1_stg1_0).view.junk (body_run.sl.H1_1 h) = entropy h := by
    unfold body_run.sl.H1_1; rw [hr]
    exact (View.read_whole _ _).symm.trans (View.read_writes_full _ _ _ _ _)
  rw [hw]
  iexact H1

/-! ## The region's data, at what the arrays hold when it is entered -/

section Data

variable (V : Dev nD → Valuation τ sig (Elt F))

/-- The histograms as the fetch stages them. -/
abbrev staged (c : Dev nD) : S3136x256.Idx → F .f32 :=
  ((cfg1.win 0).blk t1_0).view.read (Elt F) (V c (Proc.devRef .tc main_v5) : Buf (Elt F) ((cfg1.win 0).arr.view.loc (c.tc : Thread nD τ)))

/-- After the body the first window's staging buffer is as fetched, the second's the entropies; what the thread waited
    for before the region is of the call's levels. -/
def dats (_ : Fin 1) (c : Dev nD) : Dat τ (Elt F) (HIx 1) ℕ UU ℕ cfg1 c where
  A w := V c (Proc.devRef .tc (Pipeline.arrRef spec1 w))
  after w _ := match w with | ⟨0, _⟩ => staged V c | ⟨1, _⟩ => entropy (staged V c)
  Φ _ := iprop(emp)
  q _ := fullShare
  owed _ := 0
  recorded _ := {p | (K (F := F)).lev ((c.tc : Thread nD τ), p.1) p.2 ≤ 8}

theorem before_in (c : Dev nD) (x : (cfg1.win 0).block.Idx → Elt F (cfg1.win 0).elt) : (dats V 0 c).before 0 t1_0 x = staged V c := by
  unfold Dat.before; rw [if_pos (by decide)]; rfl

theorem body_obligation (c : Dev nD) : BodyObligation (dats V 0 c) (defs₀ (F := F)) 𝒱₀ none Set.univ := fun t => by
  obtain rfl := fin_N1 t
  rw [bigSep_W1, bigSep_W1]
  simp only [owns_whole_eq]
  rw [show (dats V 0 c).Φ t1_0.castSucc = iprop(emp) from rfl, show (dats V 0 c).Φ t1_0.succ = iprop(emp) from rfl]
  unfold Dat.owesAt Pipeline.owesWithin
  iintro ⟨-, HO, ⟨%x0, %f0, %hf0, H0⟩, ⟨%x1, %f1, %hf1, H1⟩⟩
  rw [before_in] at hf0
  subst hf0
  iapply (body_run c (staged V c) f1)
  isplitl [H0]; · iexact H0
  isplitl [H1]; · iexact H1
  iintro ⟨H0, H1⟩
  isplitr; · iempintro
  isplitl [HO]; · iexact HO
  isplitl [H0]
  · iexists _; isplitr; swap; (· iexact H0); ipureintro; dsimp only [dats]
  iexists _; isplitr; swap; (· iexact H1); ipureintro; dsimp only [dats]

/-! ## The region as a segment of the host code -/

/-- The arrays after the region: the entropies in the result's. -/
def after (c : Dev nD) : Valuation τ sig (Elt F) :=
  Function.update (V c) (Proc.devRef .tc main_v6) (entropy (V c (Proc.devRef .tc main_v5)) : main_v6.ty.Contents (Elt F))

theorem after_v6 (c : Dev nD) : after V c (Proc.devRef .tc main_v6) = entropy (V c (Proc.devRef .tc main_v5)) :=
  Function.update_self (Proc.devRef .tc main_v6 : DevRef τ sig) _ _

theorem after_ne (c : Dev nD) (b : Ref sig .tc) (h : b ≠ main_v6) : after V c (Proc.devRef .tc b) = V c (Proc.devRef .tc b) :=
  Function.update_of_ne (StableHlo.devRef_ne_of_ne h) _ _

theorem staged_eq (c : Dev nD) : staged V c = V c (Proc.devRef .tc main_v5) := by
  funext y
  show V c (Proc.devRef .tc main_v5) (((cfg1.win 0).blk t1_0).view.emb y) = _
  congr 1
  funext a
  refine Fin.ext ?_
  exact Pipeline.Window.rect_emb_val_of_index_zero (cfg1.win 0) t1_0 a (by revert a; decide) y

theorem arr_in (c : Dev nD) : (dats V 0 c).arrAt 0 cfg1.N = V c (Proc.devRef .tc main_v5) := (dats V 0 c).arrAt_in 0 rfl _

theorem arr_out (c : Dev nD) : (dats V 0 c).arrAt 1 cfg1.N = entropy (V c (Proc.devRef .tc main_v5)) := by
  have h : ∀ y, ((cfg1.win 1).blk t1_0).view.emb y = y := fun y => funext fun a =>
    Fin.ext (Pipeline.Window.rect_emb_val_of_index_zero (cfg1.win 1) t1_0 a (by revert a; decide) y)
  refine (dats V 0 c).arrAt_eq_of_cover 1 (entropy (V c (Proc.devRef .tc main_v5))) (fun t _ => ?_) fun i => ⟨t1_0, by decide, ?_⟩
  · obtain rfl := fin_N1 t
    rw [← staged_eq V c]
    funext y
    show entropy (staged V c) y = entropy (staged V c) (((cfg1.win 1).blk t1_0).view.emb y)
    rw [h]
  · have := ((cfg1.win 1).blk t1_0).view.emb_mem_set i
    rwa [h] at this

abbrev adm : (p : Fin 1) → (pcfgs (F := F) p).Adm := fun p => (cfgs p).toPCfg_adm

theorem noSems : Pipeline.OwnSemFacts spec1 (fun k : Fin 0 => k.elim0) := by decide

theorem noSems0 (c : Dev nD) :
    (Pipeline.ownSems0 (Ix := HIx 1) (Name := ℕ) (U := UU) (Lvl := ℕ) (Val := Elt F) (τ := τ) (sig := sig) (fun k : Fin 0 => k.elim0) c : sProp 𝕄) = iprop(emp) := by
  unfold Pipeline.ownSems0; rw [show (Finset.univ : Finset (Fin 0)) = ∅ from rfl, BI.bigSep_empty]; rfl

/-- What the thread's waits are bounded by, and that it owes nothing. -/
abbrev idle (c : Dev nD) : sProp 𝕄 := iprop(∃ W, ⌜(K (F := F)).WBelow (SparseCore.T c) W 8⌝ ∗ owes (c.tc : Thread nD τ) 0 W)

set_option backward.isDefEq.respectTransparency.types false in
def region : Pipeline.RegionSeg (pcfgs (F := F)) adm (dats V) none defs₀ 𝒱₀ (K (F := F)).L (K (F := F)).lev 0 where
  win := launch1.win.to₀
  block_pos := launch1.block_pos
  stage_whole := launch1.stage_whole
  K := Fin 0
  osem := fun k => k.elim0
  ho := noSems
  hbody c := (body_obligation V c).loose
  hwaits := Pipeline.hwaits_of_owed_zero _ _ _ _ (K (F := F)).L (K (F := F)).lev 0 fun _ _ => rfl
  pre c := iprop(unscopedBufs c (fun b => V c (Proc.devRef .tc b)) ∗ idle c)
  post c := iprop(unscopedBufs c (fun b => after V c (Proc.devRef .tc b)) ∗ idle c)
  X _ := iprop(emp)
  Y _ := iprop(emp)
  Z c := Pipeline.unscopedRest spec1 c (fun b => V c (Proc.devRef .tc b))
  hentry c := by
    have hsplit := Pipeline.arrays_of_unscopedBufs (pcfgs (F := F)) adm (dats V) launch1.win launch1.arr_whole c
      ((dats V 0 c).share_full fun _ => rfl) (fun b => V c (Proc.devRef .tc b)) (fun w => by dsimp only [dats])
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by
    rw [show (dats V 0 c).Φ 0 = iprop(emp) from rfl]
    iintro -; iempintro
  hout c := by
    rw [noSems0, show (dats V 0 c).Φ (Fin.last cfg1.N) = iprop(emp) from rfl, scopedRest1_eq]
    iintro -
    isplitr; · iempintro
    isplitr <;> iempintro
  hexit c := by
    have hjoin := Pipeline.unscopedBufs_of_arrays (pcfgs (F := F)) adm launch1.win launch1.arr_whole c (dats V)
      ((dats V 0 c).share_full fun _ => rfl) (fun b => V c (Proc.devRef .tc b)) (fun b => after V c (Proc.devRef .tc b)) ((dats V 0 c).arrAt · cfg1.N)
      (fun w => match w with
        | ⟨0, _⟩ => (arr_in V c).trans (after_ne V c main_v5 (by decide)).symm
        | ⟨1, _⟩ => (arr_out V c).trans (after_v6 V c).symm)
      (fun b hb => after_ne V c b fun e => hb (Finset.mem_image.mpr ⟨1, Finset.mem_univ _, e.symm⟩))
    iintro ⟨Ha, HO, -, HZ⟩
    imodintro
    isplitr [HO]
    · iapply hjoin
      isplitl [Ha] <;> iassumption
    · unfold Pipeline.Dat.owesAt Pipeline.owesWithin
      icases HO with ⟨%W, %hW, HO⟩; iexists W; isplitr
      · ipureintro
        intro p hp
        rcases hW hp with h | ⟨w, s, h⟩
        · exact h
        · rw [h]; exact Nat.zero_le _
      iexact HO

end Data

end Cert.Proof.Hist

end
-- ==== Proof.Run.lean ====
/-
  The whole program: the host's cutting of the image into strips, the SparseCore call, the TensorCore's region, the
  reshape; and its run from any launch memory whose pixels fall in the bins.
-/
module

public import proofs.«01_k».proof.Proof.Region

@[expose] public section

noncomputable section

namespace Cert.Proof.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation ucRefs)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element -/

/-- The pipeline's part of the launch element. -/
def pipeElt : UR sig nD τ := initOf (Pipeline.cells (nD := nD) (τ := τ) cfgs cellOf_inj) (Pipeline.launchToks (nD := nD) (τ := τ) cfgs cellOf_inj)
def u₀ : UU := (initOf (K (F := F)).hsCells (K (F := F)).hsToks, (pipeElt, 1))

/-- What the launch deals device `d` for the pipeline's staging semaphores. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem ghosts : (BI.own (EP (F := F) pipeElt) : sProp 𝕄) ⊢ |==> bigSep Finset.univ fun d : Dev nD => G (F := F) d := by
  have h := Pipeline.fund_ghost (nD := nD) (τ := τ) (Ix := HIx 1) (Val := Elt F) (Name := ℕ) (U := UU) (Lvl := ℕ)
    cfgs (EP (F := F)) cellOf_inj
  unfold pipeElt
  refine h.trans (bupd_mono ?_)
  rw [← bigSep_sep']
  refine Entails.of_eq (bigSep_congr fun d _ => ?_)
  rw [bigSep_univ_of_subsingleton (0 : Fin 1), bigSep_univ_of_subsingleton (0 : Fin 1)]

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hg := (own_pair_emb (embR : Emb (UR sig nD τ × Counters) (MT nD τ sig (HIx 1) (Elt F) ℕ UU ℕ)) pipeElt (1 : Counters)).trans
    ((sep_elim_left).trans (ghosts (F := F)))
  unfold u₀
  iintro Hu
  ihave H := (ownU_pair (initOf (K (F := F)).hsCells (K (F := F)).hsToks) (pipeElt, (1 : Counters))) $$ Hu
  icases H with ⟨HH, HP⟩
  imod hg $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The operations before the call: the depth channel, cut into strips. -/
def cuts : List (HloOp τ sig (Elt F)) :=
  [StableHlo.unary main_arg1 main_v0 ((extractStridedSlice S2x2x1x224x224 ![0, 0, 3, 0, 0] · slices_S2x2x4x224x224_S2x2x1x224x224_0_0_3_0_0) : (⟨S2x2x4x224x224, .f32⟩ : BufTy).Contents (Elt F) → (⟨S2x2x1x224x224, .f32⟩ : BufTy).Contents (Elt F)),
   StableHlo.reshape main_v0 main_v1 (rfl : (.f32 : EltTy) = .f32) shapeCasts_S2x2x1x224x224_S2x2x224x224,
   StableHlo.reshape main_v1 main_v2 (rfl : (.f32 : EltTy) = .f32) shapeCasts_S2x2x224x224_S4x28x8x2x112,
   StableHlo.unary main_v2 main_v3 ((transpose S4x28x2x8x112 [0, 1, 3, 2, 4] · transposes_S4x28x8x2x112_S4x28x2x8x112_0_1_3_2_4) : (⟨S4x28x8x2x112, .f32⟩ : BufTy).Contents (Elt F) → (⟨S4x28x2x8x112, .f32⟩ : BufTy).Contents (Elt F)),
   StableHlo.reshape main_v3 main_v4 (rfl : (.f32 : EltTy) = .f32) shapeCasts_S4x28x2x8x112_S224x8x112]

/-- The one after the region. -/
def last : HloOp τ sig (Elt F) := StableHlo.reshape main_v6 main_v7 (rfl : (.f32 : EltTy) = .f32) shapeCasts_S3136x1_S2x2x1x28x28

theorem main_eq (d : Dev nD) : main (F := F) d = StableHlo.seq cuts >>= fun _ => (K (F := F)).run d 0 >>= fun _ =>
    SparseCore.liftProg (.op (.customCall (Pipeline.entry 0) ()) .ret) >>= fun _ => (hlo rfl last fun _ => .ret ⟨⟩) := by
  unfold main cuts last
  simp only [StableHlo.seq, bind_assoc, pure_bind, bind_pure]
  rfl

/-- The region's call, under the body table the SparseCore calls extend. -/
theorem region_step [∀ e, Nonempty (Elt F e)] (W : Dev nD → Valuation τ sig (Elt F)) (d : Dev nD) (Q : PUnit → sProp 𝕄) :
    iprop((iprop(boundary (d.tc : Thread nD τ) ∗ unscopedBufs d (fun b => after W d (Proc.devRef .tc b)) ∗ idle d) -∗ Q ⟨⟩)
        ∗ boundary (d.tc : Thread nD τ) ∗ (unscopedBufs d (fun b => W d (Proc.devRef .tc b)) ∗ idle d) ∗ levAts (K (F := F)).L (K (F := F)).lev ∗ G d)
      ⊢ wp frame (wpE ((K (F := F)).defs (D (F := F))) 𝒱 (d.tc : Thread nD τ) none) Set.univ
          (SparseCore.liftProg (.op (.customCall (Pipeline.entry 0) ()) .ret)) Q := by
  have h := Pipeline.RegionSeg.wp (pcfgs (F := F)) adm (dats W) none cellOf_inj (EP (F := F)) defs₀ 𝒱₀ (K (F := F)).L (K (F := F)).lev
    (region W) d none (fun _ hu => by cases hu) .ret Q
  refine BIBase.Entails.trans ?_ ((K (F := F)).wp_liftProg (D (F := F)) 𝒱 (d.tc : Thread nD τ) Set.univ none _ Q)
  refine BIBase.Entails.trans ?_ h
  rw [show (region W).post d = iprop(unscopedBufs d (fun b => after W d (Proc.devRef .tc b)) ∗ idle d) from rfl,
    show (region W).pre d = iprop(unscopedBufs d (fun b => W d (Proc.devRef .tc b)) ∗ idle d) from rfl]
  iintro ⟨Hk, Hb, Hp, Hl, Hg⟩
  isplitl [Hk]
  · iintro H; rw [wp_ret]; imodintro; iapply Hk; iexact H
  isplitl [Hb]; · iexact Hb
  isplitl [Hp]; · iexact Hp
  isplitl [Hl]; · iexact Hl
  iexact Hg

/-! ### What the arrays hold along the way -/

/-- At launch, -/
abbrev W0 (d : Dev nD) : Valuation τ sig (Elt F) := fun b => m (d, b)
/-- the image cut into strips, -/
def W1 (d : Dev nD) : Valuation τ sig (Elt F) := StableHlo.after cuts (W0 m d)
/-- the histograms counted, -/
def W2 (d : Dev nD) : Valuation τ sig (Elt F) :=
  Function.update (W1 m d) (Proc.devRef .tc main_v5) (hists (given4 m d) : main_v5.ty.Contents (Elt F))
/-- the entropies taken, and reshaped. -/
def W4 (d : Dev nD) : Valuation τ sig (Elt F) := last.result (after (W2 m) d)

/-- The program's result. -/
def result (d : Dev nD) : S2x2x1x28x28.Idx → F .f32 := shapeCast S2x2x1x28x28 (entropy (hists (given4 m d))) shapeCasts_S3136x1_S2x2x1x28x28

theorem W1_v4 (d : Dev nD) : W1 m d (Proc.devRef .tc main_v4) = given4 m d := rfl

theorem W1_kept (d : Dev nD) (b : Ref sig .tc) (hb : b ∉ [main_v0, main_v1, main_v2, main_v3, main_v4]) :
    W1 m d (Proc.devRef .tc b) = m ((d.tc : Thread nD τ).loc b) :=
  StableHlo.after_of_writes_sub (W := [main_v0, main_v1, main_v2, main_v3, main_v4]) cuts (W0 m d) (StableHlo.forall_writes_sub_of_map rfl) hb

theorem W2_v5 (d : Dev nD) : W2 m d (Proc.devRef .tc main_v5) = hists (given4 m d) :=
  Function.update_self (Proc.devRef .tc main_v5 : DevRef τ sig) _ _

theorem W2_ne (d : Dev nD) (b : Ref sig .tc) (h : b ≠ main_v5) : W2 m d (Proc.devRef .tc b) = W1 m d (Proc.devRef .tc b) :=
  Function.update_of_ne (StableHlo.devRef_ne_of_ne h) _ _

theorem W4_v7 (d : Dev nD) : W4 m d (Proc.devRef .tc main_v7) = result m d := by
  have h : W4 m d (Proc.devRef .tc main_v7) = shapeCast S2x2x1x28x28 (after (W2 m) d (Proc.devRef .tc main_v6)) shapeCasts_S3136x1_S2x2x1x28x28 := rfl
  rw [h, after_v6, W2_v5]; rfl

theorem W4_kept (d : Dev nD) (b : Ref sig .tc) (hb : b ∉ [main_v0, main_v1, main_v2, main_v3, main_v4]) (h5 : b ≠ main_v5) (h6 : b ≠ main_v6)
    (h7 : b ≠ main_v7) : W4 m d (Proc.devRef .tc b) = m ((d.tc : Thread nD τ).loc b) := by
  unfold W4
  rw [HloOp.result_of_not_mem _ _ (Finset.mem_singleton.not.mpr (StableHlo.devRef_ne_of_ne h7)),
    after_ne _ _ _ h6, W2_ne _ _ _ h5, W1_kept _ _ _ hb]

/-- The unscoped buffers but the call's two arrays. -/
def others : Finset (Ref sig .tc) := ((Finset.univ.filter fun b : Ref sig .tc => ¬ b.isScoped).erase main_v4).erase main_v5

theorem split_call (d : Dev nD) (W : (b : Ref sig .tc) → Buf (Elt F) ((d.tc : Thread nD τ).loc b)) :
    (unscopedBufs d W : sProp 𝕄) = iprop(((SparseCore.T d).loc main_v4 ↦{fullShare} W main_v4) ∗ ((SparseCore.T d).loc main_v5 ↦{fullShare} W main_v5)
      ∗ bigSep others fun b => (d.tc : Thread nD τ).loc b ↦{fullShare} W b) := by
  unfold unscopedBufs others
  rw [SparseCore.bigSep_erase' (show main_v4 ∈ Finset.univ.filter fun b : Ref sig .tc => ¬ b.isScoped by decide),
    SparseCore.bigSep_erase' (show main_v5 ∈ (Finset.univ.filter fun b : Ref sig .tc => ¬ b.isScoped).erase main_v4 by decide)]

theorem others_W2 (d : Dev nD) :
    (bigSep others fun b => (d.tc : Thread nD τ).loc b ↦{fullShare} W1 m d (Proc.devRef .tc b) : sProp 𝕄)
      = bigSep others fun b => (d.tc : Thread nD τ).loc b ↦{fullShare} W2 m d (Proc.devRef .tc b) :=
  bigSep_congr fun b hb => by rw [W2_ne m d b (Finset.mem_erase.mp hb).1]

theorem st_eq (d : Dev nD) : (bigSep Finset.univ fun c : Fin ((K (F := F)).nCore 0) => (P m).st 0 d c)
    = iprop(((SparseCore.T d).loc main_v4 ↦{fullShare} given4 m d) ∗ ((SparseCore.T d).loc main_v5 ↦{fullShare} given5 m d)) :=
  (bigSep_cores (F := F) fun c => givenCore d c (given4 m d) (given5 m d)).trans (given_all d _ _)
theorem dn_eq (d : Dev nD) : (bigSep Finset.univ fun c : Fin ((K (F := F)).nCore 0) => (P m).dn 0 d c)
    = iprop(((SparseCore.T d).loc main_v4 ↦{fullShare} given4 m d) ∗ ((SparseCore.T d).loc main_v5 ↦{fullShare} hists (given4 m d))) :=
  (bigSep_cores (F := F) fun c => givenCore d c (given4 m d) (hists (given4 m d))).trans (given_all d _ _)

/-- After the call nothing is owed. -/
theorem owes_none (d : Dev nD) : (K (F := F)).Otc d 1 = 0 := by
  unfold SparseCore.Cfg.Otc
  exact Finset.sum_eq_zero fun q _ => if_neg (by have := q.isLt; omega)

abbrev FIN (d : Dev nD) : sProp 𝕄 := unscopedBufs d (fun b => W4 m d (Proc.devRef .tc b))

/-- The TensorCore's state after the call lends out what it owes (nothing), and takes it back. -/
theorem lend_idle (d : Dev nD) : (K (F := F)).tcSt EH d 1 ⊢ (iprop(idle d ∗ (idle d -∗ (K (F := F)).tcSt EH d 1)) : sProp 𝕄) := by
  unfold SparseCore.Cfg.tcSt idle
  rw [owes_none]
  iintro ⟨Ho, Hst⟩
  isplitl [Ho]; · iexact Ho
  iintro Ho
  isplitl [Ho]; · iexact Ho
  iexact Hst

theorem cuts_sub : ∀ op ∈ (cuts : List (HloOp τ sig (Elt F))), op.bufs ⊆ Pipeline.ucRefs τ sig := by
  intro op h
  refine Pipeline.sub_ucRefs op ?_
  simp only [cuts, List.mem_cons, List.not_mem_nil, or_false] at h
  rcases h with rfl | rfl | rfl | rfl | rfl <;> first | exact StableHlo.unary_bufs_sub .. | exact StableHlo.reshape_bufs_sub ..
theorem cuts_fresh : ∀ op ∈ (cuts : List (HloOp τ sig (Elt F))), op.fresh = ∅ := by
  intro op h
  simp only [cuts, List.mem_cons, List.not_mem_nil, or_false] at h
  rcases h with rfl | rfl | rfl | rfl | rfl <;> rfl

/-- The TensorCore's program: cut the strips, make the call, run the region, reshape. -/
theorem hmain [∀ e, Nonempty (Elt F e)] (ρ : Dev nD → PrngReg) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes
  rw [show (unscopedBufs d fun b => m ((SparseCore.T d).loc b) : sProp 𝕄) = unscopedBufs d (fun b => W0 m d (Proc.devRef .tc b)) from rfl,
    Pipeline.unscopedBufs_held]
  iintro ⟨#Hctx, Hst, ⟨Hbd, Hbufs, Hsems, -⟩, Hg⟩
  iapply (StableHlo.wp_seq 𝒱 none Set.univ d (Pipeline.ucRefs τ sig) _ cuts cuts_sub cuts_fresh (W0 m d)) $$ [Hbd Hbufs]
  · isplitl [Hbd]; · iexact Hbd
    iexact Hbufs
  rw [← Pipeline.unscopedBufs_held d (StableHlo.after cuts (W0 m d)), show StableHlo.after cuts (W0 m d) = W1 m d from rfl]
  iintro ⟨Hbd, Hbufs⟩
  ihave Hbufs := (Entails.of_eq (split_call d (fun b => W1 m d (Proc.devRef .tc b)))) $$ Hbufs
  icases Hbufs with ⟨H4, H5, Hrest⟩
  simp only [wp_bind]
  iapply ((K (F := F)).wp_run (D (F := F)) 𝒱 (EH := EH) (P := P m) κ d 0) $$ [Hst H4 H5 Hrest Hbd Hsems Hg]
  isplitr; · iexact Hctx
  isplitl [Hst]; · iexact Hst
  isplitl [H4 H5]
  · rw [st_eq, W1_v4, W1_kept m d main_v5 (by decide)]
    isplitl [H4]; · iexact H4
    iexact H5
  iintro ⟨Hst, Hdn⟩
  ihave Hdn' := (Entails.of_eq (dn_eq m d)) $$ Hdn
  icases Hdn' with ⟨H4, H5⟩
  ihave Hst' := (show (K (F := F)).tcSt EH d ((0 : Fin 1).val + 1) ⊢ (iprop(idle d ∗ (idle d -∗ (K (F := F)).tcSt EH d 1)) : sProp 𝕄) from lend_idle d) $$ Hst
  icases Hst' with ⟨Hidle, Hback⟩
  ihave Hlev := (SparseCore.Cfg.ctx_levAts (K := K (F := F)) (EH := EH) (P := P m) κ) $$ Hctx
  iapply (region_step (W2 m) d _)
  isplitr [Hbd H4 H5 Hrest Hidle Hlev Hg]
  · iintro ⟨Hbd, Hbufs, Hidle⟩
    ihave Hst := Hback $$ Hidle
    ihave Hbufs := (Entails.of_eq (Pipeline.unscopedBufs_held d (after (W2 m) d))) $$ Hbufs
    iapply (StableHlo.wp_hlo_within 𝒱 (SparseCore.T d) none Set.univ (op := last) (S := Pipeline.ucRefs τ sig)
      (Pipeline.sub_ucRefs _ (StableHlo.reshape_bufs_sub ..)) (V := after (W2 m) d)) $$ [Hbd Hbufs]
    · isplitl [Hbd] <;> iassumption
    iintro ⟨Hbd, Hbufs⟩
    rw [wp_ret]; imodintro
    isplitl [Hst]; · iexact Hst
    isplitl [Hbufs]
    · rw [show FIN m d = _ from Pipeline.unscopedBufs_held d (W4 m d)]
      iexact Hbufs
    unfold SparseCore.Cfg.tcEnd
    isplitl [Hbd] <;> iassumption
  isplitl [Hbd]; · iexact Hbd
  isplitr [Hlev Hg]
  · isplitr [Hidle]
    · iapply (Entails.of_eq (split_call d (fun b => W2 m d (Proc.devRef .tc b))).symm)
      rw [W2_v5, W2_ne m d main_v4 (by decide), W1_v4, ← others_W2]
      isplitl [H4]; · iexact H4
      isplitl [H5]; · iexact H5
      iexact Hrest
    iexact Hidle
  isplitl [Hlev]; · iexact Hlev
  iexact Hg

theorem hfin_at (d : Dev nD) (b : Ref sig .tc) (hb : ¬ b.isScoped) (s' : Phys nD τ sig (Elt F)) :
    iprop(FIN m d ∗ SI s') ⊢ (⌜s'.mem.mem ((d.tc : Thread nD τ).loc b) = W4 m d (Proc.devRef .tc b)⌝ : sProp 𝕄) := by
  unfold FIN unscopedBufs
  rw [SparseCore.bigSep_erase' (show b ∈ Finset.univ.filter fun b : Ref sig .tc => ¬ b.isScoped from Finset.mem_filter.mpr ⟨Finset.mem_univ b, hb⟩)]
  iintro ⟨⟨Hb, -⟩, HSI⟩
  ihave H := (SI_pointsTo_agree (st := s') (ℓ := (d.tc : Thread nD τ).loc b) (I := Finset.univ) (q := fullShare) (f := W4 m d (Proc.devRef .tc b))) $$ [HSI Hb]
  · isplitl [HSI] <;> iassumption
  icases H with %h
  ipureintro; exact funext fun x => h x (Finset.mem_univ x)

/-- What the run leaves: the result in place and both arguments at their launch contents. -/
def fq (d : Dev nD) (s' : Phys nD τ sig (Elt F)) : Prop :=
  s'.mem.mem ((d.tc : Thread nD τ).loc main_v7) = result m d
    ∧ s'.mem.mem ((d.tc : Thread nD τ).loc main_arg0) = m ((d.tc : Thread nD τ).loc main_arg0)
    ∧ s'.mem.mem ((d.tc : Thread nD τ).loc main_arg1) = m ((d.tc : Thread nD τ).loc main_arg1)

theorem hfin (d : Dev nD) (s' : Phys nD τ sig (Elt F)) : iprop(FIN m d ∗ SI s') ⊢ (⌜fq m d s'⌝ : sProp 𝕄) := fun x hx =>
  ⟨(hfin_at m d main_v7 (by decide) s' x hx).trans (W4_v7 m d),
    (hfin_at m d main_arg0 (by decide) s' x hx).trans (W4_kept m d _ (by decide) (by decide) (by decide) (by decide)),
    (hfin_at m d main_arg1 (by decide) s' x hx).trans (W4_kept m d _ (by decide) (by decide) (by decide) (by decide))⟩

def QC : PUnit × MemSt nD τ sig (Elt F) → Prop := fun r => (∀ d : Dev nD,
  r.2.mem ((d.tc : Thread nD τ).loc main_v7) = result m d
    ∧ r.2.mem ((d.tc : Thread nD τ).loc main_arg0) = m ((d.tc : Thread nD τ).loc main_arg0)
    ∧ r.2.mem ((d.tc : Thread nD τ).loc main_arg1) = m ((d.tc : Thread nD τ).loc main_arg1)) ∧ r.2.sem = fun _ => 0

/-- Every run of the kernel over pixels whose bins are in range ends, with the result above. -/
theorem run_main [∀ e, Nonempty (Elt F e)] (ρ : Dev nD → PrngReg) (hr : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hr)
    (fun q _ => match q with | 0 => SparseCore.Cfg.VecSplit.of_plain (vecSplit m))
    m ρ main (fun d => G d) (FIN m) u₀ (sep_elim_left.trans (hu₀ m)) (hmain m ρ) (fq m) (hfin m) (QC m) (fun _ h hz => ⟨h, hz⟩)

end Cert.Proof.Hist

end
-- ==== Proof.Pre.lean ====
/-
  The precondition: as the reference's mathematics has it, every depth pixel times 255, truncated, is one of 0 … 255.
  It gives what the kernel's run asks of the launch memory.
-/
module

public import proofs.«01_k».proof.Proof.Run
public import proofs.«01_k».proof.Proof.Gen.Pre_pixel_bins
public import Idealize.ShloMosaic.Lib.ReduceAll

@[expose] public section

noncomputable section

namespace Cert.Proof.Hist

open Cert.KernelIdeal Cert.KernelIdeal.Gen
open Idealize.ShloMosaic

variable {F : FTy → Type} [FloatOps F] [Named F]

/-- The depth channel. -/
def depth (x : S2x2x4x224x224.Idx → F .f32) : S2x2x224x224.Idx → F .f32 :=
  shapeCast S2x2x224x224 (extractStridedSlice S2x2x1x224x224 ![0, 0, 3, 0, 0] x slices_S2x2x4x224x224_S2x2x1x224x224_0_0_3_0_0)
    shapeCasts_S2x2x1x224x224_S2x2x224x224

/-- Every word of the strips is a depth pixel. -/
theorem strips_mem (x : S2x2x4x224x224.Idx → F .f32) (i : S224x8x112.Idx) : ∃ j, strips x i = depth x j := ⟨_, rfl⟩

theorem depth_inRange (x0 : FVec F Cert.Pre_pixel_bins.S2x2x200x2 .f32) (x1 : S2x2x4x224x224.Idx → F .f32)
    (h : Cert.Pre_pixel_bins.fn (F := F) x0 x1 = fun _ => 1#1) (j : S2x2x224x224.Idx) : (binOf (depth x1 j)).toNat < 256 := by
  have key : ∀ v : BitVec 32, IntOp.andi (IntOp.cmpi .sge v 0#32) (IntOp.cmpi .slt v 256#32) = 1#1 → v.toNat < 256 := by
    intro v e
    have andi_ofBool (p q : Bool) : IntOp.andi (BitVec.ofBool p) (BitVec.ofBool q) = BitVec.ofBool (p && q) := by
      cases p <;> cases q <;> decide
    have ofBool_eq_one (p : Bool) : (BitVec.ofBool p = 1#1) ↔ p = true := by cases p <;> decide
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (fun a => a.elim0)
  exact key _ (Host.reduce_andi_all _ _ _ _ _ e j)

/-- The precondition puts every pixel in one of the bins. -/
theorem inRange_of_pre (m : (ℓ : Loc nD τ sig) → Buf (Elt F) ℓ)
    (h : ∀ d : Dev nD, Cert.Pre_pixel_bins.fn (F := F) (m ((d.tc : Thread nD τ).loc main_arg0)) (m ((d.tc : Thread nD τ).loc main_arg1)) = fun _ => 1#1) :
    InRange m := fun d i => by
  obtain ⟨j, e⟩ := strips_mem (m ((SparseCore.T d).loc main_arg1)) i
  rw [show given4 m d i = _ from e]
  exact depth_inRange _ _ (h d) j

end Cert.Proof.Hist

end
-- ==== Proof.Frames.lean ====
/-
  The kernel's frames: at the ideal values, and at the hardware's, where the named constant is the word it stands for.
-/
module

public import proofs.«01_k».proof.Proof.Pre
public import proofs.«01_k».proof.Proof.Gen.Kernel
public import proofs.«01_k».proof.Proof.Gen.ReferenceIdeal.Run
public import proofs.«01_k».proof.Defs

@[expose] public section

noncomputable section

namespace Cert.Proof.Hist

open Idealize.ShloMosaic

/-- `Cert.quiescent_KernelIdeal`. -/
theorem frame_ideal : Cert.quiescent_KernelIdeal := fun m ρ hpre =>
  (θ_run Cert.KernelIdeal.defs _ _).mono (fun _ h => ⟨fun c => (h.1 c).2, h.2⟩) (run_main (F := Ideal) m ρ (inRange_of_pre m hpre))

/-- At the hardware's values a named constant is read as the word it stands for. -/
instance namedBits : Named Bits := ⟨fun _ _ _ bits => FloatOps.ofBits _ bits⟩

theorem defs₀_bits : Cert.KernelIdeal.defs₀ (F := Bits) = Cert.Kernel.defs₀ (F := Bits) := by
  funext p ℓ a
  match p, ℓ, a with
  | .scVector c s, 0, _ => rfl
  | .scVector c s, 1, _ => rfl
  | .tc, 0, _ => rfl
  | .tc, 1, _ => rfl
  | .scScalar c, 0, _ => rfl
  | .scScalar c, 1, _ => rfl

theorem defs_bits : Cert.KernelIdeal.defs (F := Bits) = Cert.Kernel.defs (F := Bits) :=
  congrArg (fun D => (Cert.KernelIdeal.sc (F := Bits)).defs (Pipeline.defs Cert.KernelIdeal.pcfgs D)) defs₀_bits

/-- `Cert.quiescent_Kernel`: the kernel and its ideal reading are one program there. -/
theorem frame_bits : Cert.quiescent_Kernel := fun m ρ hpre => by
  have h := run_main (F := Bits) m ρ (inRange_of_pre m hpre)
  rw [defs_bits] at h
  exact (θ_run (Cert.Kernel.defs (F := Bits)) (Cert.Kernel.threads (F := Bits)) _).mono (fun _ h => ⟨fun c => (h.1 c).2, h.2⟩) h

/-- `Cert.preserves_Kernel_KernelIdeal`. -/
theorem preserves : Cert.preserves_Kernel_KernelIdeal :=
  IdealRules.named_const.statement Cert.KernelIdeal.κ "neg_c" .f32 0xBD9D7A57#32 ((-200 / 2601 : ℝ) : EReal) rfl

/-- The reference from any memory: it ends, with the arguments kept and the counters at zero. -/
theorem ref_kept (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, Idealize.ShloMosaic.sem_eq_zero_of_no_sems (by decide) r.2⟩) (Cert.ReferenceIdeal.Value.run (F := Ideal) m g)

/-- `Cert.quiescent_ReferenceIdeal`. -/
theorem frame_ref : Cert.quiescent_ReferenceIdeal := fun m g _ => ref_kept m g

end Cert.Proof.Hist

end
-- ==== Proof.Consts.lean ====
/-
  The programs' float words, as the extended reals they stand for.
-/
module

public import Idealize.ShloMosaic.PureOps.Ideal
public import proofs.«01_k».proof.Proof.Tile

@[expose] public section

noncomputable section

namespace Cert.Proof.Hist

open Idealize.ShloMosaic

theorem word_255 : Ideal.ofBits .f32 0x437F0000#32 = ((255 : ℝ) : EReal) := by
  simp [Ideal.ofBits, Ideal.ieee, -EReal.coe_mul]; norm_num
theorem word_100 : Ideal.ofBits .f32 0x42C80000#32 = ((100 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_64th : Ideal.ofBits .f32 0x3C800000#32 = ((1 / 64 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul, -EReal.coe_neg]; norm_num

/-- A tap's distance is sixteen less the place of its bin. -/
theorem word_tap : ∀ t ∈ taps, Ideal.ofBits .f32 t.1 = ((16 - (t.2.toNat : ℝ) : ℝ) : EReal) := by
  simp only [taps, List.forall_mem_cons, List.not_mem_nil, false_implies, implies_true, and_true]
  refine ⟨?_, ?_, ?_, ?_, ?_, ?_, ?_, ?_, ?_, ?_, ?_, ?_, ?_, ?_, ?_, ?_⟩ <;>
    simp [Ideal.ofBits, Ideal.ieee, -EReal.coe_mul, -EReal.coe_neg, -EReal.coe_sub] <;> norm_num

end Cert.Proof.Hist

end
-- ==== Proof.Gauss.lean ====
/-
  The kernel's weights over the reals: a pixel's sixteen scatter-adds put on every bin the Gaussian of the pixel's distance
  from it, cut off beyond the sixteen bins around the pixel's own.
-/
module

public import proofs.«01_k».proof.Proof.Consts
public import proofs.«01_k».proof.Proof.Bins

@[expose] public section

noncomputable section

namespace Cert.Proof.Hist

open Cert.KernelIdeal Cert.KernelIdeal.Gen
open Idealize.ShloMosaic

/-- The Gaussian of pixel `r`'s distance from bin `j`, in steps of one bin. -/
def bell (r : ℝ) (j : ℕ) : ℝ := Real.exp (-(200 / 2601) * (255 * r - j) ^ 2)

/-- What pixel `x` puts on bin `j`. -/
def share (x : EReal) (j : ℕ) : EReal :=
  if (binOf (F := Ideal) x).toNat ≤ j + 8 ∧ j < (binOf (F := Ideal) x).toNat + 8 then (bell x.toReal j : EReal) else 0

/-- A pixel in one of the bins is a real number. -/
theorem real_of_bin (x : EReal) (h : (binOf (F := Ideal) x).toNat < 256) : x = (x.toReal : EReal) := by
  have key : ∀ y : EReal, (Ideal.fptosi 32 y).toNat < 256 → y ≠ ⊤ ∧ y ≠ ⊥ := by
    intro y hy
    constructor <;> rintro rfl <;> revert hy <;> simp [Ideal.fptosi]
  have hp : (255 : ℝ) > 0 := by norm_num
  have e : binOf (F := Ideal) x = Ideal.fptosi 32 (x * ((255 : ℝ) : EReal)) := by
    rw [← word_255]; rfl
  rw [e] at h
  obtain ⟨h1, h2⟩ := key _ h
  refine (EReal.coe_toReal ?_ ?_).symm
  · rintro rfl; exact h1 (EReal.top_mul_coe_of_pos hp)
  · rintro rfl; exact h2 (EReal.bot_mul_coe_of_pos hp)

/-- A pixel's position on the bins' axis, and in its bin. -/
theorem place_coe (r : ℝ) : place (F := Ideal) (r : EReal) = ((255 * r : ℝ) : EReal) := by
  unfold place
  rw [Ideal.mulf_def, Ideal.ofBits_def, word_255, ← EReal.coe_mul, mul_comm]

/-- A bin's word, read signed, is its number. -/
theorem toInt_bin (w : BitVec 32) (h : w.toNat < 256) : w.toInt = (w.toNat : ℤ) := by
  rw [BitVec.toInt_eq_toNat_cond, if_pos (by omega)]

theorem fracOf_coe (r : ℝ) (h : (binOf (F := Ideal) (r : EReal)).toNat < 256) :
    fracOf (F := Ideal) (r : EReal) = ((255 * r - ((binOf (F := Ideal) (r : EReal)).toNat : ℝ) : ℝ) : EReal) := by
  unfold fracOf
  rw [place_coe, Ideal.subf_def]
  show ((255 * r : ℝ) : EReal) - (((binOf (F := Ideal) (r : EReal)).toInt : ℝ) : EReal) = _
  rw [toInt_bin _ h, ← EReal.coe_sub, Int.cast_natCast]

/-- The kernel's constant. -/
theorem named_neg_c : Named.named (F := Ideal) κ "neg_c" (φ := .f32) 0xBD9D7A57#32 = ((-200 / 2601 : ℝ) : EReal) :=
  IdealRules.named_const.ideal_named_scalar _ _ _ _ rfl

/-- A tap's weight is the Gaussian at the bin it hits. -/
theorem weight_tap (r : ℝ) (h : (binOf (F := Ideal) (r : EReal)).toNat < 256) (t : BitVec 32 × BitVec 32) (ht : t ∈ taps) (j : ℕ)
    (hj : 16 + j = (binOf (F := Ideal) (r : EReal)).toNat + t.2.toNat) : weight (F := Ideal) (r : EReal) t.1 = (bell r j : EReal) := by
  have e : (16 : ℝ) + j = ((binOf (F := Ideal) (r : EReal)).toNat : ℝ) + (t.2.toNat : ℝ) := by exact_mod_cast hj
  unfold weight bell
  rw [fracOf_coe r h, Ideal.ofBits_def, word_tap t ht, named_neg_c, Ideal.addf_def, ← EReal.coe_add, Ideal.mulf_def, Ideal.mulf_def, ← EReal.coe_mul,
    ← EReal.coe_mul, Ideal.exp_def, Ideal.exp_coe]
  congr 2
  rw [show 255 * r - ((binOf (F := Ideal) (r : EReal)).toNat : ℝ) + (16 - (t.2.toNat : ℝ)) = 255 * r - j by linarith]
  ring

/-- Taps of distinct places put at most one weight on a place. -/
theorem foldl_taps (x : EReal) (k : ℕ) (w : EReal) : ∀ (L : List (BitVec 32 × BitVec 32)) (_ : (L.map fun t => t.2.toNat).Nodup)
    (_ : ∀ t ∈ L, k = (binOf (F := Ideal) x).toNat + t.2.toNat → weight (F := Ideal) x t.1 = w) (a : EReal),
    L.foldl (tapF (F := Ideal) x k) a = a + if ∃ t ∈ L, k = (binOf (F := Ideal) x).toNat + t.2.toNat then w else 0
  | [], _, _, a => by simp
  | t :: L, hL, hw, a => by
    rw [List.map_cons, List.nodup_cons] at hL
    rw [List.foldl_cons, foldl_taps x k w L hL.2 fun s hs => hw s (List.mem_cons_of_mem _ hs)]
    by_cases e : k = (binOf (F := Ideal) x).toNat + t.2.toNat
    · have h0 : ¬ ∃ s ∈ L, k = (binOf (F := Ideal) x).toNat + s.2.toNat := by
        rintro ⟨s, hs, e'⟩
        exact hL.1 (List.mem_map.mpr ⟨s, hs, by omega⟩)
      rw [if_neg h0, if_pos ⟨t, List.mem_cons_self, e⟩, tapF, if_pos e, hw t List.mem_cons_self e, add_zero]
      rfl
    · rw [tapF, if_neg e]
      congr 2
      simp [e]

theorem taps_nodup : (taps.map fun t => t.2.toNat).Nodup := by decide

/-- The bins a pixel's taps hit. -/
theorem hit_iff (b j : ℕ) : (∃ t ∈ taps, 16 + j = b + t.2.toNat) ↔ b ≤ j + 8 ∧ j < b + 8 := by
  simp only [taps, List.mem_cons, List.not_mem_nil, or_false, exists_eq_or_imp, exists_eq_left, BitVec.toNat_ofNat, Nat.reducePow, Nat.reduceMod]
  omega

/-- A pixel's sixteen scatter-adds add its share. -/
theorem pixF_share (x : EReal) (h : (binOf (F := Ideal) x).toNat < 256) (j : ℕ) (a : EReal) :
    pixF (F := Ideal) x (16 + j) a = a + share x j := by
  obtain ⟨r, rfl⟩ : ∃ r : ℝ, x = (r : EReal) := ⟨_, real_of_bin x h⟩
  unfold pixF share
  rw [foldl_taps (r : EReal) (16 + j) (bell r j : EReal) taps taps_nodup fun t ht hj => weight_tap r h t ht j hj]
  simp only [hit_iff, EReal.toReal_coe]

end Cert.Proof.Hist

end
-- ==== Proof.Reference.lean ====
/-
  The reference's stages over the reals, each read at an index: the patches, every pixel's share of every bin, the mean over
  a patch's pixels, the normalised densities and the entropies.
-/
module

public import proofs.«01_k».proof.Proof.Gauss
public import proofs.«01_k».proof.Proof.Gen.ReferenceIdeal.Run
public import Idealize.ShloMosaic.Lib.Pointwise
public import Idealize.ShloMosaic.Lib.IdealHost

@[expose] public section

noncomputable section

namespace Cert.Proof.Hist

open Cert.ReferenceIdeal Cert.ReferenceIdeal.Gen
open Idealize.ShloMosaic

/-- The depth channel cut into patches of 64 pixels. -/
def patches (x : FVec Ideal S2x2x4x224x224 .f32) : FVec Ideal S4x784x64 .f32 :=
  shapeCast S4x784x64 (transpose S4x28x28x8x8 [0, 1, 3, 2, 4] (shapeCast S4x28x8x28x8
    (broadcastInDim S2x2x1x224x224 ![0, 1, 3, 4] bcast_S2x2x224x224_S2x2x1x224x224_0_1_3_4
      (shapeCast S2x2x224x224 (extractStridedSlice S2x2x1x224x224 ![0, 0, 3, 0, 0] x slices_S2x2x4x224x224_S2x2x1x224x224_0_0_3_0_0)
        shapeCasts_S2x2x1x224x224_S2x2x224x224)) shapeCasts_S2x2x1x224x224_S4x28x8x28x8) transposes_S4x28x8x28x8_S4x28x28x8x8_0_1_3_2_4)
    shapeCasts_S4x28x28x8x8_S4x784x64

/-- The numbers of the first 255 bins over 255, the centres these make, and those of all 256. -/
def shares : FVec Ideal S255 .f32 :=
  Host.divf (sitofp .f32 (iotaInDim S255 32 0)) (broadcastInDim S255 ![] bcast_S_S255 (constant S_ .f32 0x437F0000#32))
def inner : FVec Ideal S255 .f32 :=
  addf (mulf (broadcastInDim S255 ![0] bcast_S1_S255_0 (shapeCast S1 (id (constant S_ .f32 0x00000000#32)) shapeCasts_S_S1))
      (subf (broadcastInDim S255 ![] bcast_S_S255 (constant S_ .f32 0x3F800000#32)) shares))
    (mulf (broadcastInDim S255 ![0] bcast_S1_S255_0 (shapeCast S1 (id (constant S_ .f32 0x3F800000#32)) shapeCasts_S_S1)) shares)
def centres : FVec Ideal S256 .f32 :=
  concatenate S256 0 [⟨S255, inner⟩, ⟨S1, broadcastInDim S1 ![] bcast_S_S1 (id (constant S_ .f32 0x3F800000#32))⟩] concatenates_S255_S1_S256_d0

/-- A pixel's distance from a bin's centre in bandwidths. -/
def apart (p : FVec Ideal S4x784x64 .f32) : FVec Ideal S4x784x64x256 .f32 :=
  Host.divf (subf (broadcastInDim S4x784x64x256 ![0, 1, 2, 3] bcast_S4x784x64x1_S4x784x64x256_0_1_2_3
        (broadcastInDim S4x784x64x1 ![0, 1, 2] bcast_S4x784x64_S4x784x64x1_0_1_2 p))
      (broadcastInDim S4x784x64x256 ![0, 1, 2, 3] bcast_S1x1x1x256_S4x784x64x256_0_1_2_3 (broadcastInDim S1x1x1x256 ![3] bcast_S256_S1x1x1x256_3 centres)))
    (broadcastInDim S4x784x64x256 ![] bcast_S_S4x784x64x256 (Host.divf (constant S_ .f32 0x3F800000#32) (constant S_ .f32 0x42C80000#32)))

/-- A bin's number less that of the pixel's own bin. -/
def steps (p : FVec Ideal S4x784x64 .f32) : IVec S4x784x64x256 32 :=
  subi (broadcastInDim S4x784x64x256 ![0, 1, 2, 3] bcast_S1x1x1x256_S4x784x64x256_0_1_2_3
      (broadcastInDim S1x1x1x256 ![3] bcast_S256_S1x1x1x256_3 (iotaInDim S256 32 0)))
    (broadcastInDim S4x784x64x256 ![0, 1, 2, 3] bcast_S4x784x64x1_S4x784x64x256_0_1_2_3
      (broadcastInDim S4x784x64x1 ![0, 1, 2] bcast_S4x784x64_S4x784x64x1_0_1_2
        (fptosi 32 (mulf p (broadcastInDim S4x784x64 ![] bcast_S_S4x784x64 (constant S_ .f32 0x437F0000#32))))))

/-- The Gaussians, cut off. -/
def gauss (p : FVec Ideal S4x784x64 .f32) : FVec Ideal S4x784x64x256 .f32 :=
  select (andi (cmpi .sge (steps p) (broadcastInDim S4x784x64x256 ![] bcast_S_S4x784x64x256 (constantI S_ 32 4294967288#32)))
      (cmpi .slt (steps p) (broadcastInDim S4x784x64x256 ![] bcast_S_S4x784x64x256 (constantI S_ 32 8#32))))
    (Host.exp (mulf (broadcastInDim S4x784x64x256 ![] bcast_S_S4x784x64x256 (constant S_ .f32 0xBF000000#32)) (mulf (apart p) (apart p))))
    (broadcastInDim S4x784x64x256 ![] bcast_S_S4x784x64x256 (id (constant S_ .f32 0x00000000#32)))

/-- Their mean over a patch. -/
def mean (k : FVec Ideal S4x784x64x256 .f32) : FVec Ideal S4x784x256 .f32 :=
  Host.divf (Host.reduceAdd k (constant S_ .f32 0x00000000#32) reducesTo_S4x784x64x256_S4x784x256_d2 h_S_)
    (broadcastInDim S4x784x256 ![] bcast_S_S4x784x256 (constant S_ .f32 0x42800000#32))

/-- The densities, each patch's over its sum. -/
def density (q : FVec Ideal S4x784x256 .f32) : FVec Ideal S4x784x256 .f32 :=
  Host.divf q (broadcastInDim S4x784x256 ![0, 1, 2] bcast_S4x784x1_S4x784x256_0_1_2
    (addf (broadcastInDim S4x784x1 ![0, 1] bcast_S4x784_S4x784x1_0_1 (Host.reduceAdd q (constant S_ .f32 0x00000000#32) reducesTo_S4x784x256_S4x784_d2 h_S_))
      (broadcastInDim S4x784x1 ![] bcast_S_S4x784x1 (constant S_ .f32 0x2EDBE6FF#32))))

/-- The entropies. -/
def ent (d : FVec Ideal S4x784x256 .f32) : FVec Ideal S4x784 .f32 :=
  Host.negf (Host.reduceAdd (mulf d (Host.log (addf d (broadcastInDim S4x784x256 ![] bcast_S_S4x784x256 (constant S_ .f32 0x2EDBE6FF#32)))))
    (constant S_ .f32 0x00000000#32) reducesTo_S4x784x256_S4x784_d2 h_S_)

/-- The reference's result is the stages in turn. -/
theorem res_eq (m : (ℓ : Loc nD τ sig) → Buf (Elt Ideal) ℓ) (c : Dev nD) :
    Cert.ReferenceIdeal.Value.res_main_v49 (F := Ideal) m c
    = shapeCast S2x2x1x28x28 (ent (density (mean (gauss (patches (m ((c.tc : Thread nD τ).loc main_arg1))))))) shapeCasts_S4x784_S2x2x1x28x28 := rfl

/-- A bin's number, as a word read signed. -/
theorem toInt_number (j : Fin 256) : (BitVec.ofNat 32 j.val).toInt = (j.val : ℤ) := by
  rw [BitVec.toInt_eq_toNat_cond, BitVec.toNat_ofNat]
  omega

/-- A bin's centre is its number over 255. -/
theorem centres_at (j : Fin 256) : centres (ix1 j) = ((j.val / 255 : ℝ) : EReal) := by
  pointwise [centres, inner, shares]
  have e0 : (id (constant (F := Ideal) S_ .f32 0x00000000#32) ix0 : EReal) = 0 := by pointwise [id]
  have e1 : (id (constant (F := Ideal) S_ .f32 0x3F800000#32) ix0 : EReal) = 1 := by pointwise [id]
  have e2 : (FloatOps.sitofp (F := Ideal) .f32 (BitVec.ofNat 32 j.val) : EReal) = ((j.val : ℝ) : EReal) := by
    show ((((BitVec.ofNat 32 j.val).toInt : ℤ) : ℝ) : EReal) = _
    rw [toInt_number, Int.cast_natCast]
  rw [e0, e1, e2, word_255, Ideal.div_coe (by norm_num), zero_mul, zero_add, one_mul, ← EReal.coe_mul]
  split
  · congr 1; ring
  · have : j.val = 255 := by omega
    rw [this]; norm_num

/-- A real pixel's distance from a bin's centre in bandwidths. -/
theorem apart_at (p : FVec Ideal S4x784x64 .f32) (n : Fin 4) (q : Fin 784) (e : Fin 64) (j : Fin 256) (r : ℝ)
    (hr : p (ix3 n q e) = (r : EReal)) : apart p (ix4 n q e j) = ((100 * (r - j.val / 255) : ℝ) : EReal) := by
  pointwise [apart]
  have e1 : Ideal.div 1 (Ideal.ofBits .f32 0x42C80000#32) = ((1 / 100 : ℝ) : EReal) := by
    rw [word_100, Ideal.div_coe (by norm_num), one_mul]
  rw [hr, centres_at, e1, Ideal.div_coe (by norm_num), ← EReal.coe_sub, ← EReal.coe_mul]
  congr 1; ring

/-- The cut: at most eight bins below the pixel's own, fewer than eight above. -/
theorem cut_iff (w : BitVec 32) (hw : w.toNat < 256) (j : Fin 256) (a b : EReal) :
    Scalar.select (IntOp.andi (IntOp.cmpi .sge (IntOp.subi (BitVec.ofNat 32 j.val) w) 4294967288#32)
      (IntOp.cmpi .slt (IntOp.subi (BitVec.ofNat 32 j.val) w) 8#32)) a b = if w.toNat ≤ j.val + 8 ∧ j.val < w.toNat + 8 then a else b := by
  have hd : (BitVec.ofNat 32 j.val - w).toInt = (j.val : ℤ) - w.toNat := by
    rw [BitVec.toInt_sub, toInt_number, toInt_bin w hw, Int.bmod_eq_of_le (by omega) (by omega)]
  have h8 : (4294967288#32).toInt = -8 := by decide
  have h8' : (8#32).toInt = 8 := by decide
  have hb : ∀ u v : Bool, IntOp.andi (BitVec.ofBool u) (BitVec.ofBool v) = (1 : BitVec 1) ↔ u = true ∧ v = true := by decide
  unfold Scalar.select
  simp only [IntOp.cmpi, IntOp.subi, hb, BitVec.sle_eq_decide, BitVec.slt_eq_decide, decide_eq_true_eq, hd, h8, h8']
  exact if_congr (by omega) rfl rfl

/-- The cut-off Gaussian of a pixel in one of the bins is its share. -/
theorem gauss_at (p : FVec Ideal S4x784x64 .f32) (n : Fin 4) (q : Fin 784) (e : Fin 64) (j : Fin 256)
    (h : (binOf (F := Ideal) (p (ix3 n q e))).toNat < 256) : gauss p (ix4 n q e j) = share (p (ix3 n q e)) j.val := by
  have hr := real_of_bin _ h
  have e0 : (id (constant (F := Ideal) S_ .f32 0x00000000#32) ix0 : EReal) = 0 := by pointwise [id]
  pointwise [gauss, steps]
  rw [show FloatOps.fptosi 32 (p (ix3 n q e) * Ideal.ofBits .f32 0x437F0000#32) = binOf (F := Ideal) (p (ix3 n q e)) from rfl, e0,
    cut_iff _ h, apart_at p n q e j _ hr, word_neg_half, ← EReal.coe_mul, ← EReal.coe_mul, Ideal.exp_coe, share, bell]
  congr 3
  ring

/-- The mean of 64, a sum times a 64th. -/
theorem mean_at (k : FVec Ideal S4x784x64x256 .f32) (n : Fin 4) (q : Fin 784) (j : Fin 256) :
    mean k (ix3 n q j) = (∑ e, k (ix4 n q e j)) * ((1 / 64 : ℝ) : EReal) := by
  pointwise [mean]
  rw [word_64, Ideal.div_coe (by norm_num)]

/-- The entropy of a row of 256 weights. -/
def rowEnt (v : Fin 256 → EReal) : EReal :=
  -∑ j, Ideal.div (v j) (∑ j, v j + Ideal.ofBits .f32 0x2EDBE6FF#32)
    * Ideal.log (Ideal.div (v j) (∑ j, v j + Ideal.ofBits .f32 0x2EDBE6FF#32) + Ideal.ofBits .f32 0x2EDBE6FF#32)

theorem ent_at (k : FVec Ideal S4x784x256 .f32) (n : Fin 4) (q : Fin 784) :
    ent (density k) (ix2 n q) = rowEnt fun j => k (ix3 n q j) := by
  pointwise [ent, density, rowEnt]

/-- A patch's pixel in the image. -/
theorem patches_at (x : FVec Ideal S2x2x4x224x224 .f32) (n : Fin 4) (q : Fin 784) (e : Fin 64) :
    patches x (ix3 n q e) = x (ix5 ⟨n.val / 2, by omega⟩ ⟨n.val % 2, by omega⟩ 3 ⟨q.val / 28 * 8 + e.val / 8, by omega⟩
      ⟨q.val % 28 * 8 + e.val % 8, by omega⟩) := by
  pointwise [patches]

/-- The reference's result at patch `q` of image `n`. -/
theorem reference_at (x : FVec Ideal S2x2x4x224x224 .f32) (hx : ∀ i, (binOf (F := Ideal) (patches x i)).toNat < 256) (n : Fin 4) (q : Fin 784) :
    ent (density (mean (gauss (patches x)))) (ix2 n q)
    = rowEnt fun j => (∑ e : Fin 64, share (patches x (ix3 n q e)) j.val) * ((1 / 64 : ℝ) : EReal) := by
  rw [ent_at]
  congr 1
  funext j
  rw [mean_at]
  congr 1
  exact Finset.sum_congr rfl fun e _ => gauss_at _ n q e j (hx _)

end Cert.Proof.Hist

end
-- ==== Proof.Cells.lean ====
/-
  The kernel's result over the reals, read at an index: a histogram's cell is the sum of the patch's pixels' shares of the
  bin, and a row's entropy is the entropy of its cells.
-/
module

public import proofs.«01_k».proof.Proof.Reference
public import proofs.«01_k».proof.Proof.Pre

@[expose] public section

noncomputable section

namespace Cert.Proof.Hist

open Cert.KernelIdeal Cert.KernelIdeal.Gen
open Idealize.ShloMosaic

/-- Adding term by term is adding the sum. -/
theorem foldl_add (f : ℕ → EReal) (n : ℕ) (a : EReal) : (List.range n).foldl (fun a c => a + f c) a = a + ∑ c : Fin n, f c.val := by
  induction n with
  | zero => simp
  | succ n ih => rw [List.range_succ, List.foldl_append, ih, Fin.sum_univ_castSucc, List.foldl_cons, List.foldl_nil, add_assoc]; rfl

/-- A cell of a strip's patch. -/
theorem rowsF_sum (f : S8x112.Idx → EReal) (hf : ∀ i, (binOf (F := Ideal) (f i)).toNat < 256) (l : Fin 16) (hl : l.val < 14) (j : ℕ) (a : EReal) :
    rowsF (F := Ideal) f l (16 + j) 8 a = a + ∑ r : Fin 8, ∑ c : Fin 8, share (f (ix2 r ⟨8 * l.val + c.val, by omega⟩)) j := by
  have e : ∀ (r c : Fin 8), rd (F := Ideal) f r.val (min (8 * l.val + c.val) 111) = f (ix2 r ⟨8 * l.val + c.val, by omega⟩) := by
    intro r c
    unfold rd
    congr 1
    funext a
    match a with
    | 0 => exact Fin.ext (Nat.mod_eq_of_lt r.isLt)
    | 1 => exact Fin.ext (by show min _ _ % 112 = 8 * l.val + c.val; omega)
  unfold rowsF rowF
  simp only [fun (r c : ℕ) (a : EReal) => pixF_share (rd (F := Ideal) f r (min (8 * l.val + c) 111)) (hf _) j a, foldl_add, e]

/-- A cell of the histograms. -/
theorem hists_at (g : S224x8x112.Idx → EReal) (hg : ∀ i, (binOf (F := Ideal) (g i)).toNat < 256) (y : Fin 3136) (j : Fin 256) :
    hists (F := Ideal) g (ix2 y j) = ∑ r : Fin 8, ∑ c : Fin 8, share (g (ix3 ⟨y.val / 14, by omega⟩ r ⟨8 * (y.val % 14) + c.val, by omega⟩)) j.val := by
  have e : hists (F := Ideal) g (ix2 y j) = rowsF (F := Ideal) (stripOf (F := Ideal) g ⟨y.val / 14, by omega⟩) ⟨y.val % 14, by omega⟩ (16 + j.val) 8 zero := by
    unfold hists
    rfl
  rw [e, rowsF_sum (stripOf (F := Ideal) g ⟨y.val / 14, by omega⟩) (fun i => hg _) ⟨y.val % 14, by omega⟩ (Nat.mod_lt _ (by decide)),
    show zero (F := Ideal) = (0 : EReal) from Ideal.ofBits_zero_f32, zero_add]
  refine Finset.sum_congr rfl fun r _ => Finset.sum_congr rfl fun c _ => congrArg (fun i => share (g i) j.val) (funext fun a => ?_)
  match a with
  | 0 => rfl
  | 1 => rfl
  | 2 => rfl

/-- A row's entropy. -/
theorem entropy_at (h : FVec Ideal S3136x256 .f32) (y : Fin 3136) (z : Fin 1) :
    entropy (F := Ideal) h (ix2 y z) = rowEnt fun j => h (ix2 y j) * ((1 / 64 : ℝ) : EReal) := by
  rw [← word_64th]
  pointwise [entropy, normed, freqs, rowEnt]
  exact zero_sub _

/-- A strip's word in the image. -/
theorem strips_at (x : FVec Ideal S2x2x4x224x224 .f32) (s : Fin 224) (r : Fin 8) (c : Fin 112) :
    strips (F := Ideal) x (ix3 s r c) = x (ix5 ⟨s.val / 56 / 2, by omega⟩ ⟨s.val / 56 % 2, by omega⟩ 3
      ⟨s.val / 2 % 28 * 8 + r.val, by omega⟩ ⟨s.val % 2 * 112 + c.val, by omega⟩) := by
  pointwise [strips]

/-- The kernel's word at row `r` and column `c` of patch `q` of image `n` is the reference's. -/
theorem strips_patches (x : FVec Ideal S2x2x4x224x224 .f32) (n : Fin 4) (q : Fin 784) (r c : Fin 8) :
    strips (F := Ideal) x (ix3 ⟨(784 * n.val + q.val) / 14, by omega⟩ r ⟨8 * ((784 * n.val + q.val) % 14) + c.val, by omega⟩)
    = patches x (ix3 n q (finProdFinEquiv (r, c))) := by
  rw [strips_at, patches_at]
  congr 2 <;> exact Fin.ext (by simp only [finProdFinEquiv_apply_val]; omega)

/-- The sum over a patch's pixels, by rows and columns or by their number. -/
theorem cell_eq (x : FVec Ideal S2x2x4x224x224 .f32) (hx : ∀ i, (binOf (F := Ideal) (strips (F := Ideal) x i)).toNat < 256) (n : Fin 4) (q : Fin 784) (j : Fin 256) :
    hists (F := Ideal) (strips (F := Ideal) x) (ix2 ⟨784 * n.val + q.val, by omega⟩ j) = ∑ e : Fin 64, share (patches x (ix3 n q e)) j.val := by
  rw [hists_at _ hx, ← Fintype.sum_prod_type', ← (finProdFinEquiv (m := 8) (n := 8)).sum_comp]
  exact Finset.sum_congr rfl fun p _ => by rw [strips_patches x n q p.1 p.2]

/-- Every word of the patches is a depth pixel. -/
theorem patches_mem (x : FVec Ideal S2x2x4x224x224 .f32) (i : Cert.ReferenceIdeal.S4x784x64.Idx) : ∃ j, patches x i = depth (F := Ideal) x j := ⟨_, rfl⟩

/-- The two results are one. -/
theorem result_eq (x : FVec Ideal S2x2x4x224x224 .f32) (hx : ∀ j, (binOf (F := Ideal) (depth (F := Ideal) x j)).toNat < 256) :
    shapeCast S2x2x1x28x28 (entropy (F := Ideal) (hists (F := Ideal) (strips (F := Ideal) x))) shapeCasts_S3136x1_S2x2x1x28x28
    = shapeCast S2x2x1x28x28 (ent (density (mean (gauss (patches x))))) Cert.ReferenceIdeal.Gen.shapeCasts_S4x784_S2x2x1x28x28 := by
  have hs : ∀ i, (binOf (F := Ideal) (strips (F := Ideal) x i)).toNat < 256 := fun i => by
    obtain ⟨j, e⟩ := strips_mem (F := Ideal) x i
    rw [e]; exact hx j
  have hp : ∀ i, (binOf (F := Ideal) (patches x i)).toNat < 256 := fun i => by
    obtain ⟨j, e⟩ := patches_mem x i
    rw [e]; exact hx j
  have key : ∀ (n : Fin 4) (q : Fin 784) (z : Fin 1),
      entropy (F := Ideal) (hists (F := Ideal) (strips (F := Ideal) x)) (ix2 ⟨784 * n.val + q.val, by omega⟩ z) = ent (density (mean (gauss (patches x)))) (ix2 n q) := by
    intro n q z
    rw [entropy_at, reference_at x hp]
    simp only [cell_eq x hs]
  funext i
  pointwise []
  have h0 : (i 0).val < 2 := (i 0).isLt
  have h1 : (i 1).val < 2 := (i 1).isLt
  have h3 : (i 3).val < 28 := (i 3).isLt
  have h4 : (i 4).val < 28 := (i 4).isLt
  rw [← key ⟨(i 0).val * 2 + (i 1).val, by omega⟩ ⟨(i 3).val * 28 + (i 4).val, by omega⟩ 0]
  congr 2
  exact Fin.ext (by show (i 0).val * 1568 + (i 1).val * 784 + (i 3).val * 28 + (i 4).val = 784 * ((i 0).val * 2 + (i 1).val) + ((i 3).val * 28 + (i 4).val); omega)

/-- Over the reals the kernel and the reference compute the same. -/
theorem algebraic : Cert.algebraic_KernelIdeal_ReferenceIdeal := by
  intro m ρ m' ρ' hpre hagree
  refine ⟨_, (θ_run _ _ _).mono (fun _ h => h.1) (run_main m ρ (inRange_of_pre m hpre)), ?_⟩
  refine (θ_run Cert.ReferenceIdeal.defs _ _).mono (fun _ h c => ⟨(h c).1.trans ?_, (h c).2⟩) (Cert.ReferenceIdeal.Value.run (F := Ideal) m' ρ')
  rw [res_eq, (hagree c).2]
  exact (result_eq _ (depth_inRange _ _ (hpre c))).symm

end Cert.Proof.Hist

end
-- ==== Proof.lean ====
/-
  The claims together.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_pixel_bins
public import proofs.«01_k».proof.Proof.Frames
public import proofs.«01_k».proof.Proof.Cells

@[expose] public section

noncomputable section

namespace Cert.Proof

open Idealize.ShloMosaic Idealize.SL.Sem

/-- Everything that is claimed. -/
theorem claim : Cert.Claim :=
  ⟨inferInstance, inferInstance, inferInstance, inferInstance, Hist.frame_bits, Hist.frame_ideal, Hist.frame_ref,
    fun m g _ => Hist.ref_kept m g, Hist.preserves, Hist.algebraic⟩

end Cert.Proof

end
